-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "masklim" .f32 0xEFA18F08#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048x512 : Shape := ⟨2, ![2048, 512]⟩
abbrev S2048x48 : Shape := ⟨2, ![2048, 48]⟩
abbrev S_ : Shape := ⟨0, ![]⟩
abbrev S2048x80 : Shape := ⟨2, ![2048, 80]⟩
abbrev S2048x3200 : Shape := ⟨2, ![2048, 3200]⟩
abbrev S512x2048 : Shape := ⟨2, ![512, 2048]⟩
abbrev S2048x640 : Shape := ⟨2, ![2048, 640]⟩
abbrev S512x640 : Shape := ⟨2, ![512, 640]⟩
abbrev S2048x16x3 : Shape := ⟨3, ![2048, 16, 3]⟩
abbrev S16x2048x3 : Shape := ⟨3, ![16, 2048, 3]⟩
abbrev S4x2048x32 : Shape := ⟨3, ![4, 2048, 32]⟩
abbrev S2048x128 : Shape := ⟨2, ![2048, 128]⟩
abbrev S1x2048x32 : Shape := ⟨3, ![1, 2048, 32]⟩
abbrev S32x64x128 : Shape := ⟨3, ![32, 64, 128]⟩
abbrev S32x128 : Shape := ⟨2, ![32, 128]⟩
abbrev S2048x32 : Shape := ⟨2, ![2048, 32]⟩
abbrev S2048 : Shape := ⟨1, ![2048]⟩
abbrev S2048x1 : Shape := ⟨2, ![2048, 1]⟩
abbrev S128x128 : Shape := ⟨2, ![128, 128]⟩
abbrev S1x128x32 : Shape := ⟨3, ![1, 128, 32]⟩
abbrev S1x128x3 : Shape := ⟨3, ![1, 128, 3]⟩
abbrev S128x32 : Shape := ⟨2, ![128, 32]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S128 : Shape := ⟨1, ![128]⟩
abbrev S128x3 : Shape := ⟨2, ![128, 3]⟩
abbrev S512x512 : Shape := ⟨2, ![512, 512]⟩

abbrev nBuf : Space → Nat
  | .hbm => 28
  | .vmem => 36
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x512, .f32⟩
  | .hbm, ⟨3, _⟩ => ⟨S2048x512, .f32⟩
  | .hbm, ⟨4, _⟩ => ⟨S2048x48, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x80, .f32⟩
  | .hbm, ⟨9, _⟩ => ⟨S2048x3200, .f32⟩
  | .hbm, ⟨10, _⟩ => ⟨S2048x2048, .bf16⟩
  | .hbm, ⟨11, _⟩ => ⟨S2048x3200, .bf16⟩
  | .hbm, ⟨12, _⟩ => ⟨S2048x3200, .f32⟩
  | .hbm, ⟨13, _⟩ => ⟨S2048x2048, .f32⟩
  | .hbm, ⟨14, _⟩ => ⟨S2048x512, .f32⟩
  | .hbm, ⟨15, _⟩ => ⟨S2048x512, .f32⟩
  | .hbm, ⟨16, _⟩ => ⟨S2048x48, .f32⟩
  | .hbm, ⟨17, _⟩ => ⟨S2048x16x3, .f32⟩
  | .hbm, ⟨18, _⟩ => ⟨S16x2048x3, .f32⟩
  | .hbm, ⟨19, _⟩ => ⟨S2048x2048, .bf16⟩
  | .hbm, ⟨20, _⟩ => ⟨S2048x2048, .f32⟩
  | .hbm, ⟨21, _⟩ => ⟨S4x2048x32, .f32⟩
  | .hbm, ⟨22, _⟩ => ⟨S2048x512, .bf16⟩
  | .hbm, ⟨23, _⟩ => ⟨S2048x512, .bf16⟩
  | .hbm, ⟨24, _⟩ => ⟨S2048x2048, .bf16⟩
  | .hbm, ⟨25, _⟩ => ⟨S2048x2048, .bf16⟩
  | .hbm, ⟨26, _⟩ => ⟨S2048x2048, .f32⟩
  | .hbm, ⟨27, _⟩ => ⟨S1x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x640, .bf16⟩
  | .local _ .vmem, ⟨3, _⟩ => ⟨S2048x640, .bf16⟩
  | .local _ .vmem, ⟨4, _⟩ => ⟨S512x640, .f32⟩
  | .local _ .vmem, ⟨5, _⟩ => ⟨S512x640, .f32⟩
  | .local _ .vmem, ⟨6, _⟩ => ⟨S2048x512, .bf16⟩
  | .local _ .vmem, ⟨7, _⟩ => ⟨S2048x512, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x512, .f32⟩
  | .local _ .vmem, ⟨13, _⟩ => ⟨S2048x512, .f32⟩
  | .local _ .vmem, ⟨14, _⟩ => ⟨S1x2048x32, .f32⟩
  | .local _ .vmem, ⟨15, _⟩ => ⟨S1x2048x32, .f32⟩
  | .local _ .vmem, ⟨16, _⟩ => ⟨S128x128, .bf16⟩
  | .local _ .vmem, ⟨17, _⟩ => ⟨S128x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x128x32, .f32⟩
  | .local _ .vmem, ⟨23, _⟩ => ⟨S1x128x32, .f32⟩
  | .local _ .vmem, ⟨24, _⟩ => ⟨S128x128, .f32⟩
  | .local _ .vmem, ⟨25, _⟩ => ⟨S128x128, .f32⟩
  | .local _ .vmem, ⟨26, _⟩ => ⟨S1x128x3, .f32⟩
  | .local _ .vmem, ⟨27, _⟩ => ⟨S1x128x3, .f32⟩
  | .local _ .vmem, ⟨28, _⟩ => ⟨S128x128, .bf16⟩
  | .local _ .vmem, ⟨29, _⟩ => ⟨S128x128, .bf16⟩
  | .local _ .vmem, ⟨30, _⟩ => ⟨S512x2048, .bf16⟩
  | .local _ .vmem, ⟨31, _⟩ => ⟨S512x2048, .bf16⟩
  | .local _ .vmem, ⟨32, _⟩ => ⟨S2048x512, .bf16⟩
  | .local _ .vmem, ⟨33, _⟩ => ⟨S2048x512, .bf16⟩
  | .local _ .vmem, ⟨34, _⟩ => ⟨S512x512, .f32⟩
  | .local _ .vmem, ⟨35, _⟩ => ⟨S512x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc2_transform_3 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S128x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x128x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x128x3 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== KernelIdeal.lean ====
variable {F : FTy → Type} [FloatOps F] [Named F]
def κ : String → Option EReal := fun
  | "mask" => some ⊥
  | "masklim" => some ⊥
  | _ => none
-- ==== ReferenceIdeal.lean ====
abbrev S1x2048x2048 : Shape := ⟨3, ![1, 2048, 2048]⟩
abbrev S2048x2048 : Shape := ⟨2, ![2048, 2048]⟩
abbrev S2048x512 : Shape := ⟨2, ![2048, 512]⟩
abbrev S2048x48 : Shape := ⟨2, ![2048, 48]⟩
abbrev S1x2048x16x128 : Shape := ⟨4, ![1, 2048, 16, 128]⟩
abbrev S1x16x2048x128 : Shape := ⟨4, ![1, 16, 2048, 128]⟩
abbrev S1x2048x512 : Shape := ⟨3, ![1, 2048, 512]⟩
abbrev S1x2048x4x128 : Shape := ⟨4, ![1, 2048, 4, 128]⟩
abbrev S1x4x2048x128 : Shape := ⟨4, ![1, 4, 2048, 128]⟩
abbrev S1x4x32x64x128 : Shape := ⟨5, ![1, 4, 32, 64, 128]⟩
abbrev S_ : Shape := ⟨0, ![]⟩
abbrev S1x4x32x128 : Shape := ⟨4, ![1, 4, 32, 128]⟩
abbrev S1x4x4x32x128 : Shape := ⟨5, ![1, 4, 4, 32, 128]⟩
abbrev S1x16x32x128 : Shape := ⟨4, ![1, 16, 32, 128]⟩
abbrev S2048 : Shape := ⟨1, ![2048]⟩
abbrev S32 : Shape := ⟨1, ![32]⟩
abbrev S1x32 : Shape := ⟨2, ![1, 32]⟩
abbrev S2048x1 : Shape := ⟨2, ![2048, 1]⟩
abbrev S2048x32 : Shape := ⟨2, ![2048, 32]⟩
abbrev S1x1x2048x32 : Shape := ⟨4, ![1, 1, 2048, 32]⟩
abbrev S1x16x2048x32 : Shape := ⟨4, ![1, 16, 2048, 32]⟩
abbrev S1x16x2048 : Shape := ⟨3, ![1, 16, 2048]⟩
abbrev S1x16x2048x1 : Shape := ⟨4, ![1, 16, 2048, 1]⟩
abbrev S1x4x4x2048x32 : Shape := ⟨5, ![1, 4, 4, 2048, 32]⟩
abbrev S1x4x2048x32 : Shape := ⟨4, ![1, 4, 2048, 32]⟩
abbrev S1x4x2048x16 : Shape := ⟨4, ![1, 4, 2048, 16]⟩
abbrev S1x4x2048x16x1 : Shape := ⟨5, ![1, 4, 2048, 16, 1]⟩
abbrev S1x1x1x1x32 : Shape := ⟨5, ![1, 1, 1, 1, 32]⟩
abbrev S1x4x2048x16x32 : Shape := ⟨5, ![1, 4, 2048, 16, 32]⟩
abbrev S1x4x2048x32x64 : Shape := ⟨5, ![1, 4, 2048, 32, 64]⟩
abbrev S1x4x2048x2048 : Shape := ⟨4, ![1, 4, 2048, 2048]⟩
abbrev S1x2048 : Shape := ⟨2, ![1, 2048]⟩
abbrev S1x1x2048x2048 : Shape := ⟨4, ![1, 1, 2048, 2048]⟩
abbrev S1x4x4x2048x2048 : Shape := ⟨5, ![1, 4, 4, 2048, 2048]⟩
abbrev S1x16x2048x2048 : Shape := ⟨4, ![1, 16, 2048, 2048]⟩
abbrev S1x4x4x2048x128 : Shape := ⟨5, ![1, 4, 4, 2048, 128]⟩
abbrev S1x2048x48 : Shape := ⟨3, ![1, 2048, 48]⟩
abbrev S1x2048x16x3 : Shape := ⟨4, ![1, 2048, 16, 3]⟩
abbrev S1x16x2048x3 : Shape := ⟨4, ![1, 16, 2048, 3]⟩

abbrev nBuf : Space → Nat
  | .hbm => 259
  | .vmem => 0
  | .smem => 0
  | _ => 0

abbrev hbmTy0_0 (i : Nat) : BufTy := match i % 128 with
  | 0 => ⟨S1x2048x2048, .f32⟩
  | 1 => ⟨S2048x2048, .f32⟩
  | 2 => ⟨S2048x512, .f32⟩
  | 3 => ⟨S2048x512, .f32⟩
  | 4 => ⟨S2048x48, .f32⟩
  | 5 => ⟨S2048x2048, .f32⟩
  | 6 => ⟨S1x2048x2048, .f32⟩
  | 7 => ⟨S1x2048x16x128, .f32⟩
  | 8 => ⟨S1x16x2048x128, .f32⟩
  | 9 => ⟨S1x2048x512, .f32⟩
  | 10 => ⟨S1x2048x4x128, .f32⟩
  | 11 => ⟨S1x4x2048x128, .f32⟩
  | 12 => ⟨S1x2048x512, .f32⟩
  | 13 => ⟨S1x2048x4x128, .f32⟩
  | 14 => ⟨S1x4x2048x128, .f32⟩
  | 15 => ⟨S1x4x32x64x128, .f32⟩
  | 16 => ⟨S_, .f32⟩
  | 17 => ⟨S1x4x32x128, .f32⟩
  | 18 => ⟨S_, .f32⟩
  | 19 => ⟨S1x4x32x128, .f32⟩
  | 20 => ⟨S1x4x32x128, .f32⟩
  | 21 => ⟨S1x4x32x64x128, .f32⟩
  | 22 => ⟨S_, .f32⟩
  | 23 => ⟨S1x4x32x128, .f32⟩
  | 24 => ⟨S_, .f32⟩
  | 25 => ⟨S1x4x32x128, .f32⟩
  | 26 => ⟨S1x4x32x128, .f32⟩
  | 27 => ⟨S1x4x4x32x128, .f32⟩
  | 28 => ⟨S1x16x32x128, .f32⟩
  | 29 => ⟨S1x4x4x32x128, .f32⟩
  | 30 => ⟨S1x16x32x128, .f32⟩
  | 31 => ⟨S2048, .i32⟩
  | 32 => ⟨S32, .i32⟩
  | 33 => ⟨S_, .i32⟩
  | 34 => ⟨S32, .i32⟩
  | 35 => ⟨S32, .i32⟩
  | 36 => ⟨S_, .i32⟩
  | 37 => ⟨S32, .i32⟩
  | 38 => ⟨S32, .i32⟩
  | 39 => ⟨S_, .i32⟩
  | 40 => ⟨S32, .i32⟩
  | 41 => ⟨S32, .i32⟩
  | 42 => ⟨S1x32, .i32⟩
  | 43 => ⟨S2048x1, .i32⟩
  | 44 => ⟨S2048x32, .i32⟩
  | 45 => ⟨S2048x32, .i32⟩
  | 46 => ⟨S2048x32, .i1⟩
  | 47 => ⟨S1x1x2048x32, .i1⟩
  | 48 => ⟨S1x16x2048x32, .f32⟩
  | 49 => ⟨S_, .f32⟩
  | 50 => ⟨S1x16x2048x32, .f32⟩
  | 51 => ⟨S1x16x2048x32, .f32⟩
  | 52 => ⟨S_, .f32⟩
  | 53 => ⟨S_, .f32⟩
  | 54 => ⟨S1x16x2048x32, .i1⟩
  | 55 => ⟨S1x16x2048x32, .f32⟩
  | 56 => ⟨S1x16x2048x32, .f32⟩
  | 57 => ⟨S_, .f32⟩
  | 58 => ⟨S1x16x2048, .f32⟩
  | 59 => ⟨S1x16x2048x1, .f32⟩
  | 60 => ⟨S_, .f32⟩
  | 61 => ⟨S1x16x2048x1, .f32⟩
  | 62 => ⟨S1x16x2048x1, .i1⟩
  | 63 => ⟨S_, .f32⟩
  | 64 => ⟨S_, .f32⟩
  | 65 => ⟨S1x16x2048x1, .f32⟩
  | 66 => ⟨S1x16x2048x1, .f32⟩
  | 67 => ⟨S1x16x2048x32, .f32⟩
  | 68 => ⟨S1x16x2048x32, .f32⟩
  | 69 => ⟨S1x16x2048x32, .f32⟩
  | 70 => ⟨S1x1x2048x32, .f32⟩
  | 71 => ⟨S1x16x2048x32, .f32⟩
  | 72 => ⟨S1x16x2048x32, .f32⟩
  | 73 => ⟨S_, .f32⟩
  | 74 => ⟨S1x16x2048, .f32⟩
  | 75 => ⟨S1x16x2048x1, .f32⟩
  | 76 => ⟨S1x16x2048x128, .f32⟩
  | 77 => ⟨S_, .f32⟩
  | 78 => ⟨S1x16x2048x1, .f32⟩
  | 79 => ⟨S1x16x2048x1, .f32⟩
  | 80 => ⟨S1x16x2048x128, .f32⟩
  | 81 => ⟨S1x16x2048x128, .f32⟩
  | 82 => ⟨S_, .f32⟩
  | 83 => ⟨S1x16x2048x1, .f32⟩
  | 84 => ⟨S1x16x2048x1, .f32⟩
  | 85 => ⟨S1x16x2048x32, .f32⟩
  | 86 => ⟨S1x16x2048x32, .f32⟩
  | 87 => ⟨S1x4x4x2048x32, .f32⟩
  | 88 => ⟨S_, .f32⟩
  | 89 => ⟨S1x4x2048x32, .f32⟩
  | 90 => ⟨S_, .f32⟩
  | 91 => ⟨S1x4x2048x32, .f32⟩
  | 92 => ⟨S1x4x2048x32, .f32⟩
  | 93 => ⟨S1x4x2048x16, .f32⟩
  | 94 => ⟨S1x4x2048x16, .i32⟩
  | 95 => ⟨S1x4x2048x16x1, .i32⟩
  | 96 => ⟨S1x1x1x1x32, .i32⟩
  | 97 => ⟨S1x4x2048x16x32, .i32⟩
  | 98 => ⟨S1x4x2048x16x32, .i32⟩
  | 99 => ⟨S1x4x2048x16x32, .i1⟩
  | 100 => ⟨S1x4x2048x16x32, .f32⟩
  | 101 => ⟨S_, .f32⟩
  | 102 => ⟨S1x4x2048x32, .f32⟩
  | 103 => ⟨S_, .f32⟩
  | 104 => ⟨S1x4x2048x32, .f32⟩
  | 105 => ⟨S1x4x2048x32, .i1⟩
  | 106 => ⟨S_, .i32⟩
  | 107 => ⟨S_, .i32⟩
  | 108 => ⟨S2048, .i32⟩
  | 109 => ⟨S2048, .i32⟩
  | 110 => ⟨S2048, .i32⟩
  | 111 => ⟨S_, .i32⟩
  | 112 => ⟨S2048, .i32⟩
  | 113 => ⟨S2048, .i1⟩
  | 114 => ⟨S2048, .i32⟩
  | 115 => ⟨S2048, .i32⟩
  | 116 => ⟨S_, .i32⟩
  | 117 => ⟨S2048, .i32⟩
  | 118 => ⟨S2048, .i1⟩
  | 119 => ⟨S2048, .i1⟩
  | 120 => ⟨S_, .i32⟩
  | 121 => ⟨S2048, .i32⟩
  | 122 => ⟨S2048, .i32⟩
  | 123 => ⟨S2048, .i32⟩
  | 124 => ⟨S2048x1, .i32⟩
  | 125 => ⟨S1x32, .i32⟩
  | 126 => ⟨S2048x32, .i32⟩
  | 127 => ⟨S2048x32, .i32⟩
  | _ => ⟨S1x2048x2048, .f32⟩

abbrev hbmTy0_1 (i : Nat) : BufTy := match i % 128 with
  | 0 => ⟨S2048x32, .i1⟩
  | 1 => ⟨S2048x32, .f32⟩
  | 2 => ⟨S_, .f32⟩
  | 3 => ⟨S2048x32, .f32⟩
  | 4 => ⟨S2048x32, .i1⟩
  | 5 => ⟨S1x1x2048x32, .i1⟩
  | 6 => ⟨S1x4x2048x32, .i1⟩
  | 7 => ⟨S1x4x2048x32, .i1⟩
  | 8 => ⟨S1x4x2048x32x64, .i1⟩
  | 9 => ⟨S1x4x2048x2048, .i1⟩
  | 10 => ⟨S2048x1, .i32⟩
  | 11 => ⟨S1x2048, .i32⟩
  | 12 => ⟨S2048x2048, .i32⟩
  | 13 => ⟨S2048x2048, .i32⟩
  | 14 => ⟨S2048x2048, .i1⟩
  | 15 => ⟨S1x1x2048x2048, .i1⟩
  | 16 => ⟨S1x4x2048x2048, .i1⟩
  | 17 => ⟨S1x4x2048x2048, .i1⟩
  | 18 => ⟨S1x4x4x2048x2048, .i1⟩
  | 19 => ⟨S1x16x2048x2048, .i1⟩
  | 20 => ⟨S1x4x4x2048x128, .f32⟩
  | 21 => ⟨S1x16x2048x128, .f32⟩
  | 22 => ⟨S1x4x4x2048x128, .f32⟩
  | 23 => ⟨S1x16x2048x128, .f32⟩
  | 24 => ⟨S1x16x2048x2048, .f32⟩
  | 25 => ⟨S_, .f32⟩
  | 26 => ⟨S1x16x2048x2048, .f32⟩
  | 27 => ⟨S1x16x2048x2048, .f32⟩
  | 28 => ⟨S_, .f32⟩
  | 29 => ⟨S_, .f32⟩
  | 30 => ⟨S1x16x2048x2048, .f32⟩
  | 31 => ⟨S1x16x2048x2048, .f32⟩
  | 32 => ⟨S_, .f32⟩
  | 33 => ⟨S1x16x2048, .f32⟩
  | 34 => ⟨S1x16x2048x1, .f32⟩
  | 35 => ⟨S_, .f32⟩
  | 36 => ⟨S1x16x2048x1, .f32⟩
  | 37 => ⟨S1x16x2048x1, .i1⟩
  | 38 => ⟨S_, .f32⟩
  | 39 => ⟨S_, .f32⟩
  | 40 => ⟨S1x16x2048x1, .f32⟩
  | 41 => ⟨S1x16x2048x1, .f32⟩
  | 42 => ⟨S1x16x2048x2048, .f32⟩
  | 43 => ⟨S1x16x2048x2048, .f32⟩
  | 44 => ⟨S1x16x2048x2048, .f32⟩
  | 45 => ⟨S1x16x2048x2048, .f32⟩
  | 46 => ⟨S1x16x2048x2048, .f32⟩
  | 47 => ⟨S_, .f32⟩
  | 48 => ⟨S1x16x2048, .f32⟩
  | 49 => ⟨S1x16x2048x1, .f32⟩
  | 50 => ⟨S1x16x2048x128, .f32⟩
  | 51 => ⟨S_, .f32⟩
  | 52 => ⟨S1x16x2048x1, .f32⟩
  | 53 => ⟨S1x16x2048x1, .f32⟩
  | 54 => ⟨S1x16x2048x128, .f32⟩
  | 55 => ⟨S1x16x2048x128, .f32⟩
  | 56 => ⟨S_, .f32⟩
  | 57 => ⟨S1x16x2048x1, .f32⟩
  | 58 => ⟨S1x16x2048x1, .f32⟩
  | 59 => ⟨S1x16x2048x2048, .f32⟩
  | 60 => ⟨S1x16x2048x2048, .f32⟩
  | 61 => ⟨S2048x1, .i32⟩
  | 62 => ⟨S1x2048, .i32⟩
  | 63 => ⟨S2048x2048, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x1x2048x2048, .i1⟩
  | 71 => ⟨S_, .f32⟩
  | 72 => ⟨S_, .f32⟩
  | 73 => ⟨S1x16x2048x2048, .i1⟩
  | 74 => ⟨S1x16x2048x2048, .f32⟩
  | 75 => ⟨S1x16x2048x2048, .f32⟩
  | 76 => ⟨S_, .f32⟩
  | 77 => ⟨S1x16x2048, .f32⟩
  | 78 => ⟨S1x16x2048x1, .f32⟩
  | 79 => ⟨S_, .f32⟩
  | 80 => ⟨S1x16x2048x1, .f32⟩
  | 81 => ⟨S1x16x2048x1, .i1⟩
  | 82 => ⟨S_, .f32⟩
  | 83 => ⟨S_, .f32⟩
  | 84 => ⟨S1x16x2048x1, .f32⟩
  | 85 => ⟨S1x16x2048x1, .f32⟩
  | 86 => ⟨S1x16x2048x2048, .f32⟩
  | 87 => ⟨S1x16x2048x2048, .f32⟩
  | 88 => ⟨S1x16x2048x2048, .f32⟩
  | 89 => ⟨S1x1x2048x2048, .f32⟩
  | 90 => ⟨S1x16x2048x2048, .f32⟩
  | 91 => ⟨S1x16x2048x2048, .f32⟩
  | 92 => ⟨S_, .f32⟩
  | 93 => ⟨S1x16x2048, .f32⟩
  | 94 => ⟨S1x16x2048x1, .f32⟩
  | 95 => ⟨S1x16x2048x128, .f32⟩
  | 96 => ⟨S_, .f32⟩
  | 97 => ⟨S1x16x2048x1, .f32⟩
  | 98 => ⟨S1x16x2048x1, .f32⟩
  | 99 => ⟨S1x16x2048x128, .f32⟩
  | 100 => ⟨S1x16x2048x128, .f32⟩
  | 101 => ⟨S_, .f32⟩
  | 102 => ⟨S1x16x2048x1, .f32⟩
  | 103 => ⟨S1x16x2048x1, .f32⟩
  | 104 => ⟨S1x16x2048x2048, .f32⟩
  | 105 => ⟨S1x16x2048x2048, .f32⟩
  | 106 => ⟨S1x2048x48, .f32⟩
  | 107 => ⟨S1x2048x16x3, .f32⟩
  | 108 => ⟨S1x2048x16x3, .f32⟩
  | 109 => ⟨S1x2048x16x3, .f32⟩
  | 110 => ⟨S_, .f32⟩
  | 111 => ⟨S1x2048x16x3, .f32⟩
  | 112 => ⟨S1x2048x16x3, .f32⟩
  | 113 => ⟨S_, .f32⟩
  | 114 => ⟨S1x2048x16x3, .f32⟩
  | 115 => ⟨S1x2048x16x3, .f32⟩
  | 116 => ⟨S1x16x2048x3, .f32⟩
  | 117 => ⟨S1x16x2048x1, .f32⟩
  | 118 => ⟨S1x16x2048x128, .f32⟩
  | 119 => ⟨S1x16x2048x128, .f32⟩
  | 120 => ⟨S1x16x2048x1, .f32⟩
  | 121 => ⟨S1x16x2048x128, .f32⟩
  | 122 => ⟨S1x16x2048x128, .f32⟩
  | 123 => ⟨S1x16x2048x128, .f32⟩
  | 124 => ⟨S1x16x2048x1, .f32⟩
  | 125 => ⟨S1x16x2048x128, .f32⟩
  | 126 => ⟨S1x16x2048x128, .f32⟩
  | 127 => ⟨S1x16x2048x128, .f32⟩
  | _ => ⟨S1x2048x2048, .f32⟩

abbrev hbmTy0_2 (i : Nat) : BufTy := match i % 128 with
  | 0 => ⟨S1x2048x16x128, .f32⟩
  | 1 => ⟨S1x2048x2048, .f32⟩
  | 2 => ⟨S1x2048x2048, .f32⟩
  | _ => ⟨S1x2048x2048, .f32⟩

abbrev hbmTy (i : Nat) : BufTy := match i / 128 with
  | 0 => hbmTy0_0 i
  | 1 => hbmTy0_1 i
  | 2 => hbmTy0_2 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_values : Ref sig .tc := ⟨.hbm, 93, rfl⟩
abbrev main_indices : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_c_17 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_c : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_0 : Ref sig .tc := ⟨.hbm, 120, rfl⟩
abbrev main_call3_v12 : Ref sig .tc := ⟨.hbm, 121, rfl⟩
abbrev main_call3_v13 : Ref sig .tc := ⟨.hbm, 122, rfl⟩
abbrev main_v69 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v70 : Ref sig .tc := ⟨.hbm, 129, rfl⟩
abbrev main_cst_18 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_19 : Ref sig .tc := ⟨.hbm, 153, rfl⟩
abbrev main_v93 : Ref sig .tc := ⟨.hbm, 154, rfl⟩
abbrev main_v94 : Ref sig .tc := ⟨.hbm, 155, rfl⟩
abbrev main_cst_20 : Ref sig .tc := ⟨.hbm, 156, rfl⟩
abbrev main_call5_v0 : Ref sig .tc := ⟨.hbm, 157, rfl⟩
abbrev main_call5_v1 : Ref sig .tc := ⟨.hbm, 158, rfl⟩
abbrev main_v95 : Ref sig .tc := ⟨.hbm, 159, rfl⟩
abbrev main_cst_21 : Ref sig .tc := ⟨.hbm, 160, rfl⟩
abbrev main_v96 : Ref sig .tc := ⟨.hbm, 161, rfl⟩
abbrev main_v97 : Ref sig .tc := ⟨.hbm, 162, rfl⟩
abbrev main_cst_22 : Ref sig .tc := ⟨.hbm, 163, rfl⟩
abbrev main_v98 : Ref sig .tc := ⟨.hbm, 164, rfl⟩
abbrev main_v99 : Ref sig .tc := ⟨.hbm, 165, rfl⟩
abbrev main_cst_23 : Ref sig .tc := ⟨.hbm, 166, rfl⟩
abbrev main_call6_v0 : Ref sig .tc := ⟨.hbm, 167, rfl⟩
abbrev main_call6_v1 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_24 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_25 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_26 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_c_27 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_cst_28 : Ref sig .tc := ⟨.hbm, 199, rfl⟩
abbrev main_call7_v0 : Ref sig .tc := ⟨.hbm, 200, rfl⟩
abbrev main_call7_v1 : Ref sig .tc := ⟨.hbm, 201, rfl⟩
abbrev main_call7_v2 : Ref sig .tc := ⟨.hbm, 202, rfl⟩
abbrev main_v126 : Ref sig .tc := ⟨.hbm, 203, rfl⟩
abbrev main_cst_29 : Ref sig .tc := ⟨.hbm, 204, rfl⟩
abbrev main_v127 : Ref sig .tc := ⟨.hbm, 205, rfl⟩
abbrev main_v128 : Ref sig .tc := ⟨.hbm, 206, rfl⟩
abbrev main_cst_30 : Ref sig .tc := ⟨.hbm, 207, rfl⟩
abbrev main_v129 : Ref sig .tc := ⟨.hbm, 208, rfl⟩
abbrev main_v130 : Ref sig .tc := ⟨.hbm, 209, rfl⟩
abbrev main_cst_31 : Ref sig .tc := ⟨.hbm, 210, rfl⟩
abbrev main_call8_v0 : Ref sig .tc := ⟨.hbm, 211, rfl⟩
abbrev main_call8_v1 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_32 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_cst_33 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_34 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_35 : Ref sig .tc := ⟨.hbm, 238, rfl⟩
abbrev main_v153 : Ref sig .tc := ⟨.hbm, 239, rfl⟩
abbrev main_v154 : Ref sig .tc := ⟨.hbm, 240, rfl⟩
abbrev main_cst_36 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩

abbrev nD : Nat := 1
abbrev τ : Topo := Topo.v7x

variable {F : FTy → Type} [FloatOps F]
-- ==== Proof.Nsa.Tile.lean ====
/- The attention call's tile step, written once for all sixteen key tiles.

   The kernel keeps two triples (row maximum, row sum, weighted sum), one for the selected blocks and one for the sliding
   window. A key tile that neither branch can reach leaves both triples; a tile outside the window leaves the second. -/
module

public import proofs.«01_k».proof.Proof.Gen.KernelIdeal.Skeleton

@[expose] public section

noncomputable section

namespace Cert.Proof.Nsa

open Cert.KernelIdeal Cert.KernelIdeal.Gen
open Idealize.ShloMosaic

variable {F : FTy → Type} [FloatOps F] [Named F]

/-- A column of the selection block can be sliced out. -/
theorem colSlices : ∀ n : Fin 32, S128x32.Slices ![0, n.val] S128x1 := by decide

/-- Column `n` of the selection block. -/
def selCol (sel : FVec F S128x32 .f32) (n : Fin 32) : FVec F S128x1 .f32 :=
  extractStridedSlice S128x1 ![0, n.val] sel (colSlices n)

/-- The greatest entry of a column. -/
def colMax (v : FVec F S128x1 .f32) : F .f32 :=
  extractAt ![0, 0, 0] (shapeCast S1x1x1 (multiReduction .maximumf [1, 2] S1 (shapeCast S1x128x1 v shapeCasts_S128x1_S1x128x1)
    0xFF800000#32 reduces_S1x128x1_S1 (.inl rfl) rfl : FVec F S1 .f32) shapeCasts_S1_S1x1x1) inpos_S1x1x1_p0_0_0

/-- The key tile `kb` is near enough to query tile `qt` for the sliding window to reach it. -/
def winOn (qt : BitVec 32) (kb : Nat) : BitVec 1 := Scalar.cmpi .slt (Scalar.subi qt (BitVec.ofNat 32 kb)) 5#32

/-- Some query of the tile selects one of the tile's two key blocks. -/
def selAny (ca cb : FVec F S128x1 .f32) : BitVec 1 :=
  Scalar.cmpf .ogt (Scalar.maximumf (colMax ca) (colMax cb)) (Scalar.ofBits .f32 0x00000000#32)

/-- The word the tile's guard tests. -/
def onWord (qt : BitVec 32) (kb : Nat) (ca cb : FVec F S128x1 .f32) : BitVec 32 :=
  Scalar.extui (Scalar.andi (Scalar.cmpi .sge qt (BitVec.ofNat 32 kb)) (Scalar.ori (selAny ca cb) (winOn qt kb)))

/-- The tile is worked on. -/
def tileOn (qt : BitVec 32) (kb : Nat) (ca cb : FVec F S128x1 .f32) : Prop :=
  Scalar.cmpi .ne (onWord qt kb ca cb) 0#32 = 1#1

/-- The window's part of the tile is worked on. -/
def winTest (qt : BitVec 32) (kb : Nat) : Prop := Scalar.cmpi .ne (Scalar.extui (winOn qt kb) : BitVec 32) 0#32 = 1#1

instance (qt : BitVec 32) (kb : Nat) (ca cb : FVec F S128x1 .f32) : Decidable (tileOn qt kb ca cb) := inferInstanceAs (Decidable (_ = _))
instance (qt : BitVec 32) (kb : Nat) : Decidable (winTest qt kb) := inferInstanceAs (Decidable (_ = _))

/-- Query positions of tile `qt`. -/
def rowPos (qt : BitVec 32) : IVec S128x128 32 :=
  addi (iota .tc S128x128 32 [0] iota_S128x128_d0_w32) (broadcast S128x128 (Scalar.muli qt 128#32))

/-- Positions within a key tile. -/
def lane : IVec S128x128 32 := iota .tc S128x128 32 [1] iota_S128x128_d1_w32

/-- Key positions of tile `kb`. -/
def keyPos (kb : Nat) : IVec S128x128 32 := addi lane (broadcast S128x128 (BitVec.ofNat 32 (128 * kb)))

/-- The scaled products of queries and keys. -/
def scores (q kt : FVec F S128x128 .bf16) : FVec F S128x128 .f32 :=
  mulf (matmul dot_S128x128_S128x128_S128x128_1_1_0_0_n_n none q (shapeCast S128x128 kt shapeCasts_S128x128_S128x128) (constant S128x128 .f32 0x00000000#32))
    (broadcast S128x128 (Scalar.ofBits .f32 0x3DB504F3#32))

/-- Keys not after the query. -/
def causal (qt : BitVec 32) (kb : Nat) : IVec S128x128 1 := cmpi .sge (rowPos qt) (keyPos kb)

/-- Keys of a selected block, not after the query. -/
def selMask (qt : BitVec 32) (kb : Nat) (ca cb : FVec F S128x1 .f32) : IVec S128x128 1 :=
  andi (cmpf .ogt (select (cmpi .slt lane (broadcast S128x128 64#32))
      (broadcastTo S128x128 (shapeCast S128x1 ca shapeCasts_S128x1_S128x1) broadcasts_S128x1_S128x128)
      (broadcastTo S128x128 (shapeCast S128x1 cb shapeCasts_S128x1_S128x1) broadcasts_S128x1_S128x128))
    (broadcast S128x128 (Scalar.ofBits (F := F) .f32 0x00000000#32))) (causal qt kb)

/-- Keys within the window, not after the query. -/
def winMask (qt : BitVec 32) (kb : Nat) : IVec S128x128 1 :=
  andi (causal qt kb) (cmpi .slt (subi (rowPos qt) (keyPos kb)) (broadcast S128x128 512#32))

/-- One branch's running triple. -/
abbrev Triple (F : FTy → Type) : Type := FVec F S128x1 .f32 × FVec F S128x1 .f32 × FVec F S128x128 .f32

/-- The scores with the masked ones at the named constant. -/
def masked (mask : IVec S128x128 1) (s : FVec F S128x128 .f32) : FVec F S128x128 .f32 :=
  select mask s (broadcast S128x128 (Named.named κ "mask" 0xF149F2CA#32))

/-- The row maximum after the tile. -/
def newMax (mask : IVec S128x128 1) (s : FVec F S128x128 .f32) (m0 : FVec F S128x1 .f32) : FVec F S128x1 .f32 :=
  maximumf m0 (shapeCast S128x1 (multiReduction .maximumf [1] S128 (masked mask s) 0xFF800000#32 reduces_S128x128_S128 (.inl rfl) rfl : FVec F S128 .f32) shapeCasts_S128_S128x1)

/-- The tile's weights against the row maximum after it. -/
def weights (mask : IVec S128x128 1) (s : FVec F S128x128 .f32) (m0 : FVec F S128x1 .f32) : FVec F S128x128 .f32 :=
  mulf (exp (subf (masked mask s) (broadcastTo S128x128 (newMax mask s m0) broadcasts_S128x1_S128x128)))
    (sitofp .f32 (extui 32 mask natLt_1_32))

/-- The factor by which the sums so far shrink. -/
def shrink (mask : IVec S128x128 1) (s : FVec F S128x128 .f32) (m0 : FVec F S128x1 .f32) : FVec F S128x1 .f32 :=
  exp (subf m0 (newMax mask s m0))

/-- One branch's triple after the tile. -/
def upd (mask : IVec S128x128 1) (s : FVec F S128x128 .f32) (vt : FVec F S128x128 .bf16) (c : Triple F) : Triple F :=
  (newMax mask s c.1,
   addf (mulf c.2.1 (shrink mask s c.1))
     (shapeCast S128x1 (multiReduction .add [1] S128 (weights mask s c.1) 0x00000000#32 reduces_S128x128_S128 (.inl rfl) rfl : FVec F S128 .f32) shapeCasts_S128_S128x1),
   addf (mulf c.2.2 (broadcastTo S128x128 (shrink mask s c.1) broadcasts_S128x1_S128x128))
     (matmul dot_S128x128_S128x128_S128x128_1_0_0_1_n_n none (truncf .bf16 (weights mask s c.1) bitsLt_bf16_f32)
       (shapeCast S128x128 vt shapeCasts_S128x128_S128x128) (constant S128x128 .f32 0x00000000#32)))

/-- Both triples. -/
structure Carry (F : FTy → Type) where
  sel : Triple F
  win : Triple F

/-- The carry the tiles start from. -/
def start : Triple F :=
  (broadcast S128x1 (Named.named κ "mask" 0xF149F2CA#32), broadcast S128x1 (Scalar.ofBits .f32 0x00000000#32),
   broadcast S128x128 (Scalar.ofBits .f32 0x00000000#32))

/-- A worked tile. -/
def tileBody (qt : BitVec 32) (kb : Nat) (q : FVec F S128x128 .bf16) (ca cb : FVec F S128x1 .f32) (kt vt : FVec F S128x128 .bf16) (c : Carry F) : Carry F :=
  ⟨upd (selMask qt kb ca cb) (scores q kt) vt c.sel, if winTest qt kb then upd (winMask qt kb) (scores q kt) vt c.win else c.win⟩

/-- The selection columns of the two key blocks of tile `n`. -/
def colA (sel : FVec F S128x32 .f32) (n : Fin 16) : FVec F S128x1 .f32 := selCol sel ⟨2 * n.val, by omega⟩
def colB (sel : FVec F S128x32 .f32) (n : Fin 16) : FVec F S128x1 .f32 := selCol sel ⟨2 * n.val + 1, by omega⟩

/-- The step of key tile `n`. -/
def step (qt : BitVec 32) (q : FVec F S128x128 .bf16) (sel : FVec F S128x32 .f32) (K V : Fin 16 → FVec F S128x128 .bf16) (n : Fin 16) (c : Carry F) : Carry F :=
  if tileOn qt n.val (colA sel n) (colB sel n) then tileBody qt n.val q (colA sel n) (colB sel n) (K n) (V n) c else c

/-- The carry after the first `n` key tiles. -/
def carryAt (qt : BitVec 32) (q : FVec F S128x128 .bf16) (sel : FVec F S128x32 .f32) (K V : Fin 16 → FVec F S128x128 .bf16) : (n : Nat) → n ≤ 16 → Carry F
  | 0, _ => ⟨start, start⟩
  | n + 1, h => step qt q sel K V ⟨n, by omega⟩ (carryAt qt q sel K V n (by omega))

/-- What the call stores from the last carry. -/
def finish (g : Vec F S1x128x3 .f32) (oc : Vec F S128x128 .f32) (c : Carry F) : FVec F S128x128 .bf16 :=
  k2_pay1 (k2_pay352 c.sel.2.1 c.sel.2.2) (k2_pay353 c.win.2.1 c.win.2.2) (k2_pay354 g) oc

end Cert.Proof.Nsa

end
-- ==== Proof.Nsa.TileRun.lean ====
module

public import proofs.«01_k».proof.Proof.Nsa.Tile
public import proofs.«01_k».proof.Proof.Gen.KernelIdeal.Regions

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- Key tile `n` lies within the array. -/
theorem tile_inb (n : Fin 16) : ∀ d : Fin 2, (![128 * n.val, 0] : Fin 2 → Nat) d + S128x128.size d ≤ S2048x128.size d := by
  intro d; fin_cases d
  · show 128 * n.val + 128 ≤ 2048; omega
  · show 0 + 128 ≤ 128; omega

/-- Key tile `n` of the keys or values. -/
def tileRect (n : Fin 16) : Rect S2048x128 := Rect.unit (s := S2048x128) ![128 * n.val, 0] S128x128.size (tile_inb n)

/-- What key tile `n` of a held array reads. -/
def kvTile (c : Dev nD) (M : Memref sig .tc .vmem S2048x128 .bf16) (f : Bf F c M) (n : Fin 16) : FVec F S128x128 .bf16 :=
  M.view.readAt (Elt F) (tileRect n).toLoadRect f

/-- A conditional tile step: both outcomes go on from the carry `step` gives. -/
theorem tile_rule (c : Dev nD) (M3 : Memref sig .tc .vmem S2048x128 .bf16) (M4 : Memref sig .tc .vmem S2048x128 .bf16)
    (f3 : Bf F c M3) (f4 : Bf F c M4) {β : Type} {C : Prop} [Decidable C]
    (qt : BitVec 32) (q : FVec F S128x128 .bf16) (sel : FVec F S128x32 .f32) (n : Nat) (hn16 : n < 16) (c0 : Carry F)
    (J : Carry F → Prog (TpuEff nD τ sig (Elt F) Λ₀ .tc) β)
    (o : Nat) (hin : ∀ d : Fin 2, (![o, 0] : Fin 2 → Nat) d + S128x128.size d ≤ S2048x128.size d)
    (hl3 : M3.view.LoadsAt (Rect.unit (s := S2048x128) ![o, 0] S128x128.size hin).toLoadRect)
    (hl4 : M4.view.LoadsAt (Rect.unit (s := S2048x128) ![o, 0] S128x128.size hin).toLoadRect)
    (T : Vec F S128x128 .bf16 → Vec F S128x128 .bf16 → Prog (TpuEff nD τ sig (Elt F) Λ₀ .tc) β)
    (D : Prog (TpuEff nD τ sig (Elt F) Λ₀ .tc) β)
    (h : J c0 = D ∧ o = 128 * n ∧ (C ↔ tileOn qt n (colA sel ⟨n, hn16⟩) (colB sel ⟨n, hn16⟩)) ∧
      (∀ a b, winTest qt n → T a b = J ⟨upd (selMask qt n (colA sel ⟨n, hn16⟩) (colB sel ⟨n, hn16⟩)) (scores q a) b c0.sel, upd (winMask qt n) (scores q a) b c0.win⟩) ∧
      (∀ a b, ¬ winTest qt n → T a b = J ⟨upd (selMask qt n (colA sel ⟨n, hn16⟩) (colB sel ⟨n, hn16⟩)) (scores q a) b c0.sel, c0.win⟩))
    (E : Set ℕ) (Q : β → sProp 𝕄) :
    iprop(pt c M3 f3 ∗ pt c M4 f4 ∗ (∀ c', ⌜c' = step qt q sel (kvTile c M3 f3) (kvTile c M4 f4) ⟨n, hn16⟩ c0⌝ -∗ pt c M3 f3 -∗ pt c M4 f4 -∗
        wp frame (wpE (defs₀ (F := F)) Variants.none c none) E (J c') Q)) ⊢ wp frame (wpE (defs₀ (F := F)) Variants.none c none) E
      (if C then (Prog.lift (.load M3 (Rect.unit (s := S2048x128) ![o, 0] S128x128.size hin).toLoadRect hl3) >>= fun a =>
        Prog.lift (.load M4 (Rect.unit (s := S2048x128) ![o, 0] S128x128.size hin).toLoadRect hl4) >>= fun b => T a b) else D) Q := by
  obtain ⟨hD, rfl, hC, hw, hn⟩ := h
  by_cases hCC : C
  · rw [if_pos hCC]
    obtain rfl : T = fun a b => J (tileBody qt n q (colA sel ⟨n, hn16⟩) (colB sel ⟨n, hn16⟩) a b c0) := funext fun a => funext fun b => by
      unfold tileBody; split
      · exact hw a b ‹_›
      · exact hn a b ‹_›
    iintro ⟨H3, H4, HQ⟩
    sl_exec!
    iapply HQ $$ %(tileBody qt n q (colA sel ⟨n, hn16⟩) (colB sel ⟨n, hn16⟩) _ _ c0) [] [H3] [H4]
    · ipureintro; unfold step; rw [if_pos (hC.mp hCC)]; rfl
    · iexact H3
    · iexact H4
  · rw [if_neg hCC, ← hD]
    iintro ⟨H3, H4, HQ⟩
    iapply HQ $$ %c0 [] [H3] [H4]
    · ipureintro; unfold step; rw [if_neg (fun h => hCC (hC.mpr h))]
    · iexact H3
    · iexact H4

end Cert.Proof.Nsa
-- ==== Proof.Nsa.Products.lean ====
/- The two projection calls' bodies: one matrix product each. -/
module

public import proofs.«01_k».proof.Proof.Nsa.TileRun
public import Idealize.ShloMosaic.Lib.Tactic
public import Idealize.ShloMosaic.Lib.VecWindow
public import Idealize.ShloMosaic.Lib.WritesUnit
public import Idealize.ShloMosaic.Lib.Pointwise

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (E : Set ℕ)

theorem proj_run (i : grid0.Coords) (M2 : Memref sig .tc .vmem S512x2048 .bf16) (h2 : M2.IsWhole) (M3 : Memref sig .tc .vmem S2048x640 .bf16) (h3 : M3.IsWhole)
    (M4 : Memref sig .tc .vmem S512x640 .f32) (h4 : M4.IsWhole) (f2 : Bf F c M2) (f3 : Bf F c M3) (f4 : Bf F c M4) (Q : PUnit → sProp 𝕄) :
    iprop(pt c M2 f2 ∗ pt c M3 f3 ∗ pt c M4 f4 ∗
      (∀ W, ⌜M4.view.read (Elt F) W = k0_pay1 (M2.view.read (Elt F) f2) (M3.view.read (Elt F) f3)⌝ -∗ pt c M2 f2 -∗ pt c M3 f3 -∗ pt c M4 W -∗ Q ⟨⟩))
      ⊢ wp frame (wpE (defs₀ (F := F)) Variants.none c none) E (cc0__proj_kernel i M2 h2 M3 h3 M4 h4) Q := by
  iintro ⟨H2, H3, H4, HQ⟩
  sl_exec!
  sl_step
  iapply HQ $$ %_ [] [H2] [H3] [H4]
  pick_goal 4; · iexact H4
  · ipureintro
    refine (View.read_writes_full _ _ _ _ _).trans ?_
    exact congrArg₂ k0_pay1 (View.readAt_full ..) (View.readAt_full ..)
  · iexact H2
  · iexact H3

theorem out_run (i : grid3.Coords) (M2 : Memref sig .tc .vmem S512x2048 .bf16) (h2 : M2.IsWhole) (M3 : Memref sig .tc .vmem S2048x512 .bf16) (h3 : M3.IsWhole)
    (M4 : Memref sig .tc .vmem S512x512 .f32) (h4 : M4.IsWhole) (f2 : Bf F c M2) (f3 : Bf F c M3) (f4 : Bf F c M4) (Q : PUnit → sProp 𝕄) :
    iprop(pt c M2 f2 ∗ pt c M3 f3 ∗ pt c M4 f4 ∗
      (∀ W, ⌜M4.view.read (Elt F) W = k3_pay1 (M2.view.read (Elt F) f2) (M3.view.read (Elt F) f3)⌝ -∗ pt c M2 f2 -∗ pt c M3 f3 -∗ pt c M4 W -∗ Q ⟨⟩))
      ⊢ wp frame (wpE (defs₀ (F := F)) Variants.none c none) E (cc3__out_kernel i M2 h2 M3 h3 M4 h4) Q := by
  iintro ⟨H2, H3, H4, HQ⟩
  sl_exec!
  sl_step
  iapply HQ $$ %_ [] [H2] [H3] [H4]
  pick_goal 4; · iexact H4
  · ipureintro
    refine (View.read_writes_full _ _ _ _ _).trans ?_
    exact congrArg₂ k3_pay1 (View.readAt_full ..) (View.readAt_full ..)
  · iexact H2
  · iexact H3

end Cert.Proof.Nsa
-- ==== Proof.Nsa.Cmp.lean ====
/- The compression call's body: its heads' weights and outputs, the importance of the key blocks, their ranks and the selection. -/
module

public import proofs.«01_k».proof.Proof.Nsa.TileRun
public import Idealize.ShloMosaic.Lib.Tactic
public import Idealize.ShloMosaic.Lib.VecWindow
public import Idealize.ShloMosaic.Lib.WritesUnit
public import Idealize.ShloMosaic.Lib.Pointwise

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A head's columns lie within the queries. -/
theorem head_inb (h : Fin 4) : ∀ d : Fin 2, (![0, 128 * h.val] : Fin 2 → Nat) d + S2048x128.size d ≤ S2048x512.size d := by
  intro d; fin_cases d
  · show 0 + 2048 ≤ 2048; omega
  · show 128 * h.val + 128 ≤ 512; omega

/-- A head's columns. -/
def headRect (h : Fin 4) : Rect S2048x512 := Rect.unit (s := S2048x512) ![0, 128 * h.val] S2048x128.size (head_inb h)

/-- A head's queries. -/
def headOf (q : Vec F S2048x512 .bf16) (h : Fin 4) : Vec F S2048x128 .bf16 := fun x => q ((headRect h).emb x)

/-- A head's normalized weights over the key blocks' means. -/
def headW (kc : FVec F S32x128 .bf16) (q : Vec F S2048x128 .bf16) : FVec F S2048x32 .f32 := k1_pay19 kc k1_pay4 q

/-- A head's output over the value blocks' means. -/
def headO (kc vc : FVec F S32x128 .bf16) (q : Vec F S2048x128 .bf16) : FVec F S2048x128 .f32 := k1_pay20 kc vc k1_pay4 q

/-- A head's share of the importance added. -/
def addShare (acc w : FVec F S2048x32 .f32) : FVec F S2048x32 .f32 := addf acc (mulf w (broadcast S2048x32 (Scalar.ofBits .f32 0x3E800000#32)))

/-- The importance of the key blocks. -/
def importance (kc : FVec F S32x128 .bf16) (q : Vec F S2048x512 .bf16) : FVec F S2048x32 .f32 :=
  addShare (addShare (addShare (addShare (k1_pay5 (F := F)) (headW kc (headOf q 0))) (headW kc (headOf q 1))) (headW kc (headOf q 2))) (headW kc (headOf q 3))

/-- A column of the importance can be sliced out. -/
theorem impSlices : ∀ n : Fin 32, S2048x32.Slices ![0, n.val] S2048x1 := by decide

/-- The key blocks' numbers. -/
def blkNo : IVec S2048x32 32 := iota .tc S2048x32 32 [1] iota_S2048x32_d1_w32

/-- Which blocks beat block `n`: those of greater importance, and of equal importance the earlier ones. -/
def beats (imp : FVec F S2048x32 .f32) (n : Fin 32) : IVec S2048x32 32 :=
  if n.val = 0 then extui 32 (cmpf .ogt imp (broadcastTo S2048x32 (extractStridedSlice S2048x1 ![0, n.val] imp (impSlices n)) broadcasts_S2048x1_S2048x32)) natLt_1_32
  else addi (extui 32 (cmpf .ogt imp (broadcastTo S2048x32 (extractStridedSlice S2048x1 ![0, n.val] imp (impSlices n)) broadcasts_S2048x1_S2048x32)) natLt_1_32)
    (select (cmpi .slt blkNo (broadcast S2048x32 (BitVec.ofNat 32 n.val)))
      (extui 32 (cmpf .oeq imp (broadcastTo S2048x32 (extractStridedSlice S2048x1 ![0, n.val] imp (impSlices n)) broadcasts_S2048x1_S2048x32)) natLt_1_32)
      (broadcast S2048x32 0#32))

/-- How many blocks beat block `n`. -/
def rankCol (imp : FVec F S2048x32 .f32) (n : Fin 32) : IVec S2048x1 32 :=
  shapeCast S2048x1 (multiReductionI .add [1] S2048 (beats imp n) 0#32 reduces_S2048x32_S2048 rfl) shapeCasts_S2048_S2048x1

/-- Every block's rank. -/
def ranks (imp : FVec F S2048x32 .f32) : IVec S2048x32 32 :=
  concatenate S2048x32 1 (List.ofFn fun n : Fin 32 => (⟨S2048x1, rankCol imp n⟩ : (s : Shape) × (s.Idx → BitVec 32)))
    concatenates_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x1_S2048x32_d1

/-- The query positions. -/
def posNo : IVec S2048x32 32 := iota .tc S2048x32 32 [0] iota_S2048x32_d0_w32

/-- The selection from the ranks: the sixteen of least rank and the query's own block. -/
def selFrom (r : IVec S2048x32 32) : FVec F S1x2048x32 .f32 :=
  k1_pay1 (F := F) posNo blkNo r 64#32 (k1_pay73 posNo) (k1_pay74 posNo) (Scalar.extui (Scalar.cmpi .sgt 64#32 0#32)) (Scalar.extui (Scalar.cmpi .slt 64#32 0#32))

/-- The heads' outputs side by side. -/
def cmpOut (q : Vec F S2048x512 .bf16) (k v : Vec F S2048x128 .f32) : Vec F S2048x512 .f32 := fun j =>
  headO (k1_pay2 k) (k1_pay3 v) (headOf q ⟨(j 1).val / 128, by have := (j 1).isLt; change (j 1).val < 512 at this; omega⟩)
    (ix2 (n0 := 2048) (n1 := 128) (j 0) ⟨(j 1).val % 128, Nat.mod_lt _ (by decide)⟩)

/-- An index of the heads' columns is one of a head's. -/
theorem cmpOut_at (q : Vec F S2048x512 .bf16) (k v : Vec F S2048x128 .f32) (h : Fin 4) (a : Fin 2048) (b : Fin 128) {j : S2048x512.Idx} (w : (ix2 a (⟨128 * h.val + b.val, by omega⟩ : Fin 512) : S2048x512.Idx) = j) :
    cmpOut q k v j = headO (k1_pay2 k) (k1_pay3 v) (headOf q h) (ix2 a b) := by
  subst w
  unfold cmpOut
  have e1 : (⟨(128 * h.val + b.val) / 128, by omega⟩ : Fin 4) = h := Fin.ext (by show (128 * h.val + b.val) / 128 = h.val; omega)
  have e2 : (⟨(128 * h.val + b.val) % 128, Nat.mod_lt _ (by decide)⟩ : Fin 128) = b := Fin.ext (by show (128 * h.val + b.val) % 128 = b.val; omega)
  exact congrArg₂ (fun h b => headO (k1_pay2 k) (k1_pay3 v) (headOf q h) (ix2 a b)) e1 e2

variable (c : Dev nD) (i : grid1.Coords) (M1 : Memref sig .tc .vmem S2048x512 .bf16) (h1 : M1.IsWhole)
    (M2 : Memref sig .tc .vmem S2048x128 .f32) (h2 : M2.IsWhole) (M3 : Memref sig .tc .vmem S2048x128 .f32) (h3 : M3.IsWhole)
    (M4 : Memref sig .tc .vmem S2048x512 .f32) (h4 : M4.IsWhole) (M5 : Memref sig .tc .vmem S1x2048x32 .f32) (h5 : M5.IsWhole)
    (f1 : Bf F c M1) (f2 : Bf F c M2) (f3 : Bf F c M3) (f4 : Bf F c M4) (f5 : Bf F c M5) (E : Set ℕ)

/-- A column of the head just written reads what was written. -/
theorem head_hit (v : View sig .tc .vmem S2048x512 .f32) (f) {o : Nat} (inb : ∀ d : Fin 2, (![0, o] : Fin 2 → Nat) d + S2048x128.size d ≤ S2048x512.size d)
    (w : (Rect.unit (s := S2048x512) ![0, o] S2048x128.size inb).shape.Idx → Elt F .f32) (L) (a : Fin 2048) (b : Fin 128) (b' : Fin 512) (hb : b'.val = o + b.val) :
    v.read (Elt F) (v.writes (Elt F) f (⟨Rect.unit (s := S2048x512) ![0, o] S2048x128.size inb, w⟩ :: L)) (ix2 a b') = w (ix2 a b) :=
  View.read_writes_cons_unit_of_mem v f inb w L (ix2 a b') (ix2 a b) rfl fun d => by
    match d with
    | ⟨0, _⟩ => exact (Nat.zero_add _).symm
    | ⟨1, _⟩ => exact hb

/-- A column before the head just written reads what the earlier ones left. -/
theorem head_miss (v : View sig .tc .vmem S2048x512 .f32) (f) {o : Nat} (inb : ∀ d : Fin 2, (![0, o] : Fin 2 → Nat) d + S2048x128.size d ≤ S2048x512.size d)
    (w : (Rect.unit (s := S2048x512) ![0, o] S2048x128.size inb).shape.Idx → Elt F .f32) (L) (a : Fin 2048) (b' : Fin 512) (hb : b'.val < o) :
    v.read (Elt F) (v.writes (Elt F) f (⟨Rect.unit (s := S2048x512) ![0, o] S2048x128.size inb, w⟩ :: L)) (ix2 a b') = v.read (Elt F) (v.writes (Elt F) f L) (ix2 a b') :=
  View.read_writes_cons_unit_of_not_mem v f inb w L (ix2 a b') rfl 1 (.inl hb)

/-- The whole of a held matrix of means' rows, as the kernel loads it. -/
abbrev all4 (c : Dev nD) (M : Memref sig .tc .vmem S2048x128 .f32) (f : Bf F c M) : Vec F S2048x128 .f32 :=
  M.view.readAt (Elt F) (Rect.unit (s := S2048x128) ![0, 0] S2048x128.size inb_S2048x128_S2048x128_0_0).toLoadRect f

set_option maxRecDepth 65536 in
theorem cmp_run (Q : PUnit → sProp 𝕄) :
    iprop(pt c M1 f1 ∗ pt c M2 f2 ∗ pt c M3 f3 ∗ pt c M4 f4 ∗ pt c M5 f5 ∗
      (∀ W W', ⌜M4.view.read (Elt F) W = cmpOut (M1.view.read (Elt F) f1) (M2.view.read (Elt F) f2) (M3.view.read (Elt F) f3)⌝ -∗
        ⌜M5.view.read (Elt F) W' = selFrom (ranks (importance (k1_pay2 (M2.view.read (Elt F) f2)) (M1.view.read (Elt F) f1)))⌝ -∗
        pt c M1 f1 -∗ pt c M2 f2 -∗ pt c M3 f3 -∗ pt c M4 W -∗ pt c M5 W' -∗ Q ⟨⟩))
      ⊢ wp frame (wpE (defs₀ (F := F)) Variants.none c none) E
        (cc1__cmp_kernel i M1 h1 M2 h2 M3 h3 M4 h4 M5 h5) Q := by
  iintro ⟨H1, H2, H3, H4, H5, HQ⟩
  sl_exec!
  sl_step
  iapply HQ $$ %_ %_ [] [] [H1] [H2] [H3] [H4] [H5]
  pick_goal 7; · iexact H5
  pick_goal 6; · iexact H4
  · ipureintro
    rw [← show all4 c M2 f2 = _ from View.readAt_full .., ← show all4 c M3 f3 = _ from View.readAt_full ..]
    funext j
    obtain ⟨a, b, rfl⟩ : ∃ (a : Fin 2048) (b : Fin 512), j = ix2 a b := ⟨j 0, j 1, eq_ix2 j⟩
    obtain ⟨h, b, rfl⟩ : ∃ (h : Fin 4) (b' : Fin 128), b = ⟨128 * h.val + b'.val, by omega⟩ :=
      ⟨⟨b.val / 128, by omega⟩, ⟨b.val % 128, Nat.mod_lt _ (by decide)⟩, Fin.ext (by show b.val = 128 * (b.val / 128) + b.val % 128; omega)⟩
    rw [cmpOut_at _ _ _ h a b rfl]
    fin_cases h
    · refine (head_miss _ _ _ _ _ a _ (by show 128 * 0 + b.val < 384; omega)).trans ?_
      refine (head_miss _ _ _ _ _ a _ (by show 128 * 0 + b.val < 256; omega)).trans ?_
      refine (head_miss _ _ _ _ _ a _ (by show 128 * 0 + b.val < 128; omega)).trans ?_
      exact head_hit _ _ _ _ _ a b _ rfl
    · refine (head_miss _ _ _ _ _ a _ (by show 128 * 1 + b.val < 384; omega)).trans ?_
      refine (head_miss _ _ _ _ _ a _ (by show 128 * 1 + b.val < 256; omega)).trans ?_
      exact head_hit _ _ _ _ _ a b _ rfl
    · refine (head_miss _ _ _ _ _ a _ (by show 128 * 2 + b.val < 384; omega)).trans ?_
      exact head_hit _ _ _ _ _ a b _ rfl
    · exact head_hit _ _ _ _ _ a b _ rfl
  · ipureintro
    refine (View.read_writes_full _ _ _ _ _).trans ?_
    rw [← show all4 c M2 f2 = _ from View.readAt_full ..]
    rfl
  · iexact H1
  · iexact H2
  · iexact H3

end Cert.Proof.Nsa
-- ==== Proof.Nsa.AttnRun.lean ====
module

public import proofs.«01_k».proof.Proof.Nsa.TileRun
public import Idealize.ShloMosaic.Lib.Tactic

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The printed parts, each run through its tiles -/

variable (c : Dev nD) (i : grid2.Coords) (M2 : Memref sig .tc .vmem S128x128 .bf16) (h2 : M2.IsWhole)
    (M3 : Memref sig .tc .vmem S2048x128 .bf16) (h3 : M3.IsWhole) (M4 : Memref sig .tc .vmem S2048x128 .bf16) (h4 : M4.IsWhole)
    (M5 : Memref sig .tc .vmem S1x128x32 .f32) (h5 : M5.IsWhole) (M6 : Memref sig .tc .vmem S128x128 .f32) (h6 : M6.IsWhole)
    (M7 : Memref sig .tc .vmem S1x128x3 .f32) (h7 : M7.IsWhole) (M8 : Memref sig .tc .vmem S128x128 .bf16) (h8 : M8.IsWhole)
    (f3 : Bf F c M3) (f4 : Bf F c M4) (qt : BitVec 32) (q : FVec F S128x128 .bf16) (sel : FVec F S128x32 .f32) (c0 : Carry F) (E : Set ℕ)

set_option maxRecDepth 65536 in
theorem part2_run (Q : _ → sProp 𝕄) :
    iprop(pt c M3 f3 ∗ pt c M4 f4 ∗ (∀ c' r, ⌜c' = step qt q sel (kvTile c M3 f3) (kvTile c M4 f4) 2 (step qt q sel (kvTile c M3 f3) (kvTile c M4 f4) 1 c0)⌝ -∗
        ⌜r = ⟨c'.sel.1, c'.sel.2.1, c'.sel.2.2, c'.win.1, c'.win.2.1, c'.win.2.2, k2_pay75 sel, k2_pay76 sel, winOn qt 3, k2_pay77 sel⟩⌝ -∗ pt c M3 f3 -∗ pt c M4 f4 -∗ Q r))
      ⊢ wp frame (wpE (defs₀ (F := F)) Variants.none c none) E
        (k2_part2 i M2 h2 M3 h3 M4 h4 M5 h5 M6 h6 M7 h7 M8 h8 qt q sel (rowPos qt) lane k2_pay5 c0.sel.1 c0.sel.2.1 c0.sel.2.2 c0.win.1 c0.win.2.1 c0.win.2.2
          (colA sel 1)) Q := by
  iintro ⟨H3, H4, HQ⟩
  sl_unfold [k2_part2, k2_part2_skel]
  sl_exec!
  iapply (tile_rule c M3 M4 f3 f4 qt q sel 1 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 2 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  sl_step
  iapply HQ $$ %c2 %_ [] [] [H3] [H4]
  · ipureintro; subst hc2; subst hc1; rfl
  · ipureintro; rfl
  · iexact H3
  · iexact H4

set_option maxRecDepth 65536 in
theorem part3_run (Q : _ → sProp 𝕄) :
    iprop(pt c M3 f3 ∗ pt c M4 f4 ∗ (∀ c' r, ⌜c' = step qt q sel (kvTile c M3 f3) (kvTile c M4 f4) 4 (step qt q sel (kvTile c M3 f3) (kvTile c M4 f4) 3 c0)⌝ -∗
        ⌜r = ⟨c'.sel.1, c'.sel.2.1, c'.sel.2.2, c'.win.1, c'.win.2.1, c'.win.2.2, k2_pay118 sel, k2_pay119 sel, winOn qt 5, k2_pay120 sel, k2_pay121 sel⟩⌝ -∗ pt c M3 f3 -∗ pt c M4 f4 -∗ Q r))
      ⊢ wp frame (wpE (defs₀ (F := F)) Variants.none c none) E
        (k2_part3 i M2 h2 M3 h3 M4 h4 M5 h5 M6 h6 M7 h7 M8 h8 qt q sel (rowPos qt) lane k2_pay5 c0.sel.1 c0.sel.2.1 c0.sel.2.2 c0.win.1 c0.win.2.1 c0.win.2.2
          (k2_pay75 sel) (k2_pay76 sel) (winOn qt 3) (k2_pay77 sel)) Q := by
  iintro ⟨H3, H4, HQ⟩
  sl_unfold [k2_part3, k2_part3_skel]
  sl_exec!
  iapply (tile_rule c M3 M4 f3 f4 qt q sel 3 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 4 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  sl_step
  iapply HQ $$ %c2 %_ [] [] [H3] [H4]
  · ipureintro; subst hc2; subst hc1; rfl
  · ipureintro; rfl
  · iexact H3
  · iexact H4

set_option maxRecDepth 65536 in
theorem part4_run (Q : _ → sProp 𝕄) :
    iprop(pt c M3 f3 ∗ pt c M4 f4 ∗ (∀ c' r, ⌜c' = step qt q sel (kvTile c M3 f3) (kvTile c M4 f4) 6 (step qt q sel (kvTile c M3 f3) (kvTile c M4 f4) 5 c0)⌝ -∗
        ⌜r = ⟨c'.sel.1, c'.sel.2.1, c'.sel.2.2, c'.win.1, c'.win.2.1, c'.win.2.2, k2_pay162 sel, k2_pay163 sel, winOn qt 7, selAny (colA sel 7) (colB sel 7)⟩⌝ -∗ pt c M3 f3 -∗ pt c M4 f4 -∗ Q r))
      ⊢ wp frame (wpE (defs₀ (F := F)) Variants.none c none) E
        (k2_part4 i M2 h2 M3 h3 M4 h4 M5 h5 M6 h6 M7 h7 M8 h8 qt q sel (rowPos qt) lane k2_pay5 c0.sel.1 c0.sel.2.1 c0.sel.2.2 c0.win.1 c0.win.2.1 c0.win.2.2
          (k2_pay118 sel) (k2_pay119 sel) (winOn qt 5) (k2_pay120 sel) (k2_pay121 sel)) Q := by
  iintro ⟨H3, H4, HQ⟩
  sl_unfold [k2_part4, k2_part4_skel]
  sl_exec!
  iapply (tile_rule c M3 M4 f3 f4 qt q sel 5 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 6 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  sl_step
  iapply HQ $$ %c2 %_ [] [] [H3] [H4]
  · ipureintro; subst hc2; subst hc1; rfl
  · ipureintro; rfl
  · iexact H3
  · iexact H4

set_option maxRecDepth 65536 in
theorem part5_run (Q : _ → sProp 𝕄) :
    iprop(pt c M3 f3 ∗ pt c M4 f4 ∗ (∀ c' r, ⌜c' = step qt q sel (kvTile c M3 f3) (kvTile c M4 f4) 8 (step qt q sel (kvTile c M3 f3) (kvTile c M4 f4) 7 c0)⌝ -∗
        ⌜r = ⟨c'.sel.1, c'.sel.2.1, c'.sel.2.2, c'.win.1, c'.win.2.1, c'.win.2.2, k2_pay204 sel, k2_pay205 sel, winOn qt 9, onWord qt 9 (colA sel 9) (colB sel 9), 0#32⟩⌝ -∗ pt c M3 f3 -∗ pt c M4 f4 -∗ Q r))
      ⊢ wp frame (wpE (defs₀ (F := F)) Variants.none c none) E
        (k2_part5 i M2 h2 M3 h3 M4 h4 M5 h5 M6 h6 M7 h7 M8 h8 qt q sel (rowPos qt) lane k2_pay5 c0.sel.1 c0.sel.2.1 c0.sel.2.2 c0.win.1 c0.win.2.1 c0.win.2.2
          (k2_pay162 sel) (k2_pay163 sel) (winOn qt 7) (selAny (colA sel 7) (colB sel 7))) Q := by
  iintro ⟨H3, H4, HQ⟩
  sl_unfold [k2_part5, k2_part5_skel]
  sl_exec!
  iapply (tile_rule c M3 M4 f3 f4 qt q sel 7 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 8 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  sl_step
  iapply HQ $$ %c2 %_ [] [] [H3] [H4]
  · ipureintro; subst hc2; subst hc1; rfl
  · ipureintro; rfl
  · iexact H3
  · iexact H4

set_option maxRecDepth 65536 in
theorem part6_run (Q : _ → sProp 𝕄) :
    iprop(pt c M3 f3 ∗ pt c M4 f4 ∗ (∀ c' r, ⌜c' = step qt q sel (kvTile c M3 f3) (kvTile c M4 f4) 11 (step qt q sel (kvTile c M3 f3) (kvTile c M4 f4) 10 (step qt q sel (kvTile c M3 f3) (kvTile c M4 f4) 9 c0))⌝ -∗
        ⌜r = ⟨c'.sel.1, c'.sel.2.1, c'.sel.2.2, c'.win.1, c'.win.2.1, c'.win.2.2, k2_pay267 sel, k2_pay268 sel, Scalar.subi qt 12#32⟩⌝ -∗ pt c M3 f3 -∗ pt c M4 f4 -∗ Q r))
      ⊢ wp frame (wpE (defs₀ (F := F)) Variants.none c none) E
        (k2_part6 i M2 h2 M3 h3 M4 h4 M5 h5 M6 h6 M7 h7 M8 h8 qt q sel (rowPos qt) lane k2_pay5 c0.sel.1 c0.sel.2.1 c0.sel.2.2 c0.win.1 c0.win.2.1 c0.win.2.2
          (k2_pay204 sel) (k2_pay205 sel) (winOn qt 9) (onWord qt 9 (colA sel 9) (colB sel 9)) 0#32) Q := by
  iintro ⟨H3, H4, HQ⟩
  sl_unfold [k2_part6, k2_part6_skel]
  sl_exec!
  iapply (tile_rule c M3 M4 f3 f4 qt q sel 9 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 10 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  iapply (tile_rule c M3 M4 f3 f4 qt q sel 11 (by decide) c2 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c3 %hc3 H3 H4
  sl_exec!
  sl_step
  iapply HQ $$ %c3 %_ [] [] [H3] [H4]
  · ipureintro; subst hc3; subst hc2; subst hc1; rfl
  · ipureintro; rfl
  · iexact H3
  · iexact H4

set_option maxRecDepth 65536 in
theorem part7_run (Q : _ → sProp 𝕄) :
    iprop(pt c M3 f3 ∗ pt c M4 f4 ∗ (∀ c' r, ⌜c' = step qt q sel (kvTile c M3 f3) (kvTile c M4 f4) 13 (step qt q sel (kvTile c M3 f3) (kvTile c M4 f4) 12 c0)⌝ -∗
        ⌜r = ⟨c'.sel.1, c'.sel.2.1, c'.sel.2.2, c'.win.1, c'.win.2.1, c'.win.2.2, k2_pay309 sel, k2_pay310 sel, winOn qt 14, k2_pay311 sel⟩⌝ -∗ pt c M3 f3 -∗ pt c M4 f4 -∗ Q r))
      ⊢ wp frame (wpE (defs₀ (F := F)) Variants.none c none) E
        (k2_part7 i M2 h2 M3 h3 M4 h4 M5 h5 M6 h6 M7 h7 M8 h8 qt q sel (rowPos qt) lane k2_pay5 c0.sel.1 c0.sel.2.1 c0.sel.2.2 c0.win.1 c0.win.2.1 c0.win.2.2
          (k2_pay267 sel) (k2_pay268 sel) (Scalar.subi qt 12#32)) Q := by
  iintro ⟨H3, H4, HQ⟩
  sl_unfold [k2_part7, k2_part7_skel]
  sl_exec!
  iapply (tile_rule c M3 M4 f3 f4 qt q sel 12 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 13 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  sl_step
  iapply HQ $$ %c2 %_ [] [] [H3] [H4]
  · ipureintro; subst hc2; subst hc1; rfl
  · ipureintro; rfl
  · iexact H3
  · iexact H4

/-- The whole of a held matrix, as the kernel loads it. -/
abbrev all2 {e : EltTy} (c : Dev nD) (M : Memref sig .tc .vmem S128x128 e) (f : Bf F c M) : Vec F S128x128 e :=
  M.view.readAt (Elt F) (Rect.unit (s := S128x128) ![0, 0] S128x128.size inb_S128x128_S128x128_0_0).toLoadRect f
/-- The whole of the held selection block. -/
abbrev allSel (c : Dev nD) (M : Memref sig .tc .vmem S1x128x32 .f32) (f : Bf F c M) : Vec F S1x128x32 .f32 :=
  M.view.readAt (Elt F) (Rect.unit (s := S1x128x32) ![0, 0, 0] S1x128x32.size inb_S1x128x32_S1x128x32_0_0_0).toLoadRect f
/-- The whole of the held gates. -/
abbrev allGate (c : Dev nD) (M : Memref sig .tc .vmem S1x128x3 .f32) (f : Bf F c M) : Vec F S1x128x3 .f32 :=
  M.view.readAt (Elt F) (Rect.unit (s := S1x128x3) ![0, 0, 0] S1x128x3.size inb_S1x128x3_S1x128x3_0_0_0).toLoadRect f

set_option maxRecDepth 65536 in
theorem part1_run (f2 : Bf F c M2) (f5 : Bf F c M5) (Q : _ → sProp 𝕄) :
    iprop(pt c M2 f2 ∗ pt c M5 f5 ∗ pt c M3 f3 ∗ pt c M4 f4 ∗ (∀ c' r, ⌜c' = step (BitVec.ofNat 32 (i 1).val) (k2_pay2 (all2 c M2 f2)) (k2_pay3 (allSel c M5 f5)) (kvTile c M3 f3) (kvTile c M4 f4) 0 ⟨start, start⟩⌝ -∗
        ⌜r = ⟨BitVec.ofNat 32 (i 1).val, k2_pay2 (all2 c M2 f2), k2_pay3 (allSel c M5 f5), rowPos (BitVec.ofNat 32 (i 1).val), lane, k2_pay5, c'.sel.1, c'.sel.2.1, c'.sel.2.2, c'.win.1, c'.win.2.1, c'.win.2.2, colA (k2_pay3 (allSel c M5 f5)) 1⟩⌝
          -∗ pt c M2 f2 -∗ pt c M5 f5 -∗ pt c M3 f3 -∗ pt c M4 f4 -∗ Q r))
      ⊢ wp frame (wpE (defs₀ (F := F)) Variants.none c none) E
        (k2_part1 i M2 h2 M3 h3 M4 h4 M5 h5 M6 h6 M7 h7 M8 h8) Q := by
  iintro ⟨H2, H5, H3, H4, HQ⟩
  sl_unfold [k2_part1, k2_part1_skel]
  sl_exec!
  iapply (tile_rule c M3 M4 f3 f4 (BitVec.ofNat 32 (i 1).val) (k2_pay2 (all2 c M2 f2)) (k2_pay3 (allSel c M5 f5)) 0 (by decide) ⟨start, start⟩
    (fun c' => Prog.ret ⟨BitVec.ofNat 32 (i 1).val, k2_pay2 (all2 c M2 f2), k2_pay3 (allSel c M5 f5), rowPos (BitVec.ofNat 32 (i 1).val), lane, k2_pay5, c'.sel.1, c'.sel.2.1, c'.sel.2.2, c'.win.1, c'.win.2.1, c'.win.2.2, colA (k2_pay3 (allSel c M5 f5)) 1⟩) _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_step
  iapply HQ $$ %c1 %_ [] [] [H2] [H5] [H3] [H4]
  · ipureintro; exact hc1
  · ipureintro; rfl
  · iexact H2
  · iexact H5
  · iexact H3
  · iexact H4

set_option maxRecDepth 65536 in
theorem part8_run (f7 : Bf F c M7) (Q : _ → sProp 𝕄) :
    iprop(pt c M3 f3 ∗ pt c M4 f4 ∗ pt c M7 f7 ∗ (∀ c' r, ⌜c' = step qt q sel (kvTile c M3 f3) (kvTile c M4 f4) 15 (step qt q sel (kvTile c M3 f3) (kvTile c M4 f4) 14 c0)⌝ -∗
        ⌜r = ⟨k2_pay352 c'.sel.2.1 c'.sel.2.2, k2_pay353 c'.win.2.1 c'.win.2.2, k2_pay354 (allGate c M7 f7)⟩⌝ -∗ pt c M3 f3 -∗ pt c M4 f4 -∗ pt c M7 f7 -∗ Q r))
      ⊢ wp frame (wpE (defs₀ (F := F)) Variants.none c none) E
        (k2_part8 i M2 h2 M3 h3 M4 h4 M5 h5 M6 h6 M7 h7 M8 h8 qt q sel (rowPos qt) lane k2_pay5 c0.sel.1 c0.sel.2.1 c0.sel.2.2 c0.win.1 c0.win.2.1 c0.win.2.2
          (k2_pay309 sel) (k2_pay310 sel) (winOn qt 14) (k2_pay311 sel)) Q := by
  iintro ⟨H3, H4, H7, HQ⟩
  sl_unfold [k2_part8, k2_part8_skel]
  sl_exec!
  iapply (tile_rule c M3 M4 f3 f4 qt q sel 14 (by decide) c0 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c1 %hc1 H3 H4
  sl_exec!
  iapply (tile_rule c M3 M4 f3 f4 qt q sel 15 (by decide) c1 _ _ _ _ _ _ _ ?h)
  case h => exact ⟨by rfl, rfl, Iff.rfl, by intro a b hw; exact dif_pos hw, by intro a b hw; exact dif_neg hw⟩
  isplitl [H3]; · iexact H3
  isplitl [H4]; · iexact H4
  iintro %c2 %hc2 H3 H4
  sl_exec!
  sl_step
  iapply HQ $$ %c2 %_ [] [] [H3] [H4] [H7]
  · ipureintro; subst hc2; subst hc1; rfl
  · ipureintro; rfl
  · iexact H3
  · iexact H4
  · iexact H7

end Cert.Proof.Nsa
-- ==== Proof.Nsa.AttnCall.lean ====
/- The attention call's body run as a whole: what its result buffer reads afterwards. -/
module

public import proofs.«01_k».proof.Proof.Nsa.AttnRun
public import Idealize.ShloMosaic.Lib.Tactic
public import Idealize.ShloMosaic.Lib.VecWindow

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid2.Coords) (M2 : Memref sig .tc .vmem S128x128 .bf16) (h2 : M2.IsWhole)
    (M3 : Memref sig .tc .vmem S2048x128 .bf16) (h3 : M3.IsWhole) (M4 : Memref sig .tc .vmem S2048x128 .bf16) (h4 : M4.IsWhole)
    (M5 : Memref sig .tc .vmem S1x128x32 .f32) (h5 : M5.IsWhole) (M6 : Memref sig .tc .vmem S128x128 .f32) (h6 : M6.IsWhole)
    (M7 : Memref sig .tc .vmem S1x128x3 .f32) (h7 : M7.IsWhole) (M8 : Memref sig .tc .vmem S128x128 .bf16) (h8 : M8.IsWhole)
    (f2 : Bf F c M2) (f3 : Bf F c M3) (f4 : Bf F c M4) (f5 : Bf F c M5) (f6 : Bf F c M6) (f7 : Bf F c M7) (f8 : Bf F c M8) (E : Set ℕ)

/-- A program run through its first part, by that part's rule. -/
theorem run_then {c : Dev nD} {E : Set ℕ} {α β : Type} {R : (β → sProp 𝕄) → sProp 𝕄} {p : Prog (TpuEff nD τ sig (Elt F) Λ₀ .tc) β}
    (h : ∀ Q, R Q ⊢ wp frame (wpE (defs₀ (F := F)) Variants.none c none) E p Q) (k : β → Prog (TpuEff nD τ sig (Elt F) Λ₀ .tc) α) (Q : α → sProp 𝕄) :
    R (fun b => wp frame (wpE (defs₀ (F := F)) Variants.none c none) E (k b) Q) ⊢ wp frame (wpE (defs₀ (F := F)) Variants.none c none) E (p >>= k) Q := by
  rw [wp_bind]; exact h _

/-- What the call computes at query tile `qt` from its blocks. -/
def attnOut (qt : BitVec 32) (q : Vec F S128x128 .bf16) (k v : Vec F S2048x128 .bf16) (sel : Vec F S1x128x32 .f32) (oc : Vec F S128x128 .f32) (g : Vec F S1x128x3 .f32) :
    FVec F S128x128 .bf16 :=
  finish g oc (carryAt qt (k2_pay2 q) (k2_pay3 sel) (fun n x => k ((tileRect n).emb x)) (fun n x => v ((tileRect n).emb x)) 16 le_rfl)

set_option maxRecDepth 65536 in
theorem attn_run (Q : PUnit → sProp 𝕄) :
    iprop(pt c M2 f2 ∗ pt c M3 f3 ∗ pt c M4 f4 ∗ pt c M5 f5 ∗ pt c M6 f6 ∗ pt c M7 f7 ∗ pt c M8 f8 ∗
      (∀ W, ⌜M8.view.read (Elt F) W = attnOut (BitVec.ofNat 32 (i 1).val) (M2.view.read (Elt F) f2) (M3.view.read (Elt F) f3) (M4.view.read (Elt F) f4)
          (M5.view.read (Elt F) f5) (M6.view.read (Elt F) f6) (M7.view.read (Elt F) f7)⌝ -∗
        pt c M2 f2 -∗ pt c M3 f3 -∗ pt c M4 f4 -∗ pt c M5 f5 -∗ pt c M6 f6 -∗ pt c M7 f7 -∗ pt c M8 W -∗ Q ⟨⟩))
      ⊢ wp frame (wpE (defs₀ (F := F)) Variants.none c none) E
        (cc2__attn_kernel i M2 h2 M3 h3 M4 h4 M5 h5 M6 h6 M7 h7 M8 h8) Q := by
  iintro ⟨H2, H3, H4, H5, H6, H7, H8, HQ⟩
  sl_unfold [cc2__attn_kernel, cc2__attn_kernel_skel]
  iapply (run_then (part1_run c i M2 h2 M3 h3 M4 h4 M5 h5 M6 h6 M7 h7 M8 h8 f3 f4 E f2 f5) _ _)
  isplitl [H2]; · iexact H2
  isplitl [H5]; · iexact H5
  isplitl [H3]; · iexact H3
  isplitl [H4]; · iexact H4
  iintro %c1 %r %hc1 %hr H2 H5 H3 H4
  subst hr
  iapply (run_then (part2_run c i M2 h2 M3 h3 M4 h4 M5 h5 M6 h6 M7 h7 M8 h8 f3 f4 _ _ _ c1 E) _ _)
  isplitl [H3]; · iexact H3
  isplitl [H4]; · iexact H4
  iintro %c2 %r %hc2 %hr H3 H4
  subst hr
  iapply (run_then (part3_run c i M2 h2 M3 h3 M4 h4 M5 h5 M6 h6 M7 h7 M8 h8 f3 f4 _ _ _ c2 E) _ _)
  isplitl [H3]; · iexact H3
  isplitl [H4]; · iexact H4
  iintro %c3 %r %hc3 %hr H3 H4
  subst hr
  iapply (run_then (part4_run c i M2 h2 M3 h3 M4 h4 M5 h5 M6 h6 M7 h7 M8 h8 f3 f4 _ _ _ c3 E) _ _)
  isplitl [H3]; · iexact H3
  isplitl [H4]; · iexact H4
  iintro %c4 %r %hc4 %hr H3 H4
  subst hr
  iapply (run_then (part5_run c i M2 h2 M3 h3 M4 h4 M5 h5 M6 h6 M7 h7 M8 h8 f3 f4 _ _ _ c4 E) _ _)
  isplitl [H3]; · iexact H3
  isplitl [H4]; · iexact H4
  iintro %c5 %r %hc5 %hr H3 H4
  subst hr
  iapply (run_then (part6_run c i M2 h2 M3 h3 M4 h4 M5 h5 M6 h6 M7 h7 M8 h8 f3 f4 _ _ _ c5 E) _ _)
  isplitl [H3]; · iexact H3
  isplitl [H4]; · iexact H4
  iintro %c6 %r %hc6 %hr H3 H4
  subst hr
  iapply (run_then (part7_run c i M2 h2 M3 h3 M4 h4 M5 h5 M6 h6 M7 h7 M8 h8 f3 f4 _ _ _ c6 E) _ _)
  isplitl [H3]; · iexact H3
  isplitl [H4]; · iexact H4
  iintro %c7 %r %hc7 %hr H3 H4
  subst hr
  iapply (run_then (part8_run c i M2 h2 M3 h3 M4 h4 M5 h5 M6 h6 M7 h7 M8 h8 f3 f4 _ _ _ c7 E f7) _ _)
  isplitl [H3]; · iexact H3
  isplitl [H4]; · iexact H4
  isplitl [H7]; · iexact H7
  iintro %c8 %r %hc8 %hr H3 H4 H7
  subst hr
  sl_exec!
  sl_step
  iapply HQ $$ %_ [] [H2] [H3] [H4] [H5] [H6] [H7] [H8]
  pick_goal 8; · iexact H8
  · ipureintro
    refine (View.read_writes_full _ _ _ _ _).trans ?_
    subst hc8; subst hc7; subst hc6; subst hc5; subst hc4; subst hc3; subst hc2; subst hc1
    unfold attnOut
    rw [← show all2 c M2 f2 = _ from View.readAt_full ..,
      ← show allSel c M5 f5 = _ from View.readAt_full .., ← show all2 c M6 f6 = _ from View.readAt_full .., ← show allGate c M7 f7 = _ from View.readAt_full ..]
    rfl
  · iexact H2
  · iexact H3
  · iexact H4
  · iexact H5
  · iexact H6
  · iexact H7

end Cert.Proof.Nsa
-- ==== Proof.Nsa.Region0.lean ====
/- The query, key and value projection: what each grid point leaves, and that its body leaves it. -/
module

public import proofs.«01_k».proof.Proof.Nsa.Products
public import proofs.«01_k».proof.Proof.Nsa.Cmp
public import proofs.«01_k».proof.Proof.Nsa.AttnCall
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameBody
public import Idealize.ShloMosaic.Lib.Tactic

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- An input window's block at a point, read off its array as the call finds it. -/
abbrev blkOf {cfg : Cfg sig Λ₀} (V : Valuation τ sig (Elt F)) (w : Fin cfg.W) (t : Fin cfg.N) :
    ((cfg.win w).xblock (cfg.grid.coords t)).Idx → Elt F (cfg.win w).elt :=
  ((cfg.win w).blk t).view.read (Elt F) (V (Proc.devRef .tc (Pipeline.arrRef cfg.spec w)))

/-- A whole staging buffer owned at given contents, as the bodies hold it. -/
theorem staged (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

def dat0 (V : Valuation τ sig (Elt F)) (c : Dev nD) : Dat τ (Elt F) Unit ℕ (UR sig nD τ) ℕ cfg0 c where
  A w := V (Proc.devRef .tc (Pipeline.arrRef spec0 w))
  after w t := match w with
    | ⟨0, _⟩ => blkOf (cfg := cfg0) V 0 t
    | ⟨1, _⟩ => blkOf (cfg := cfg0) V 1 t
    | ⟨2, _⟩ => k0_pay1 (blkOf (cfg := cfg0) V 0 t) (blkOf (cfg := cfg0) V 1 t)
  Φ _ := Pipeline.scopedRest spec0 c
  q _ := fullShare
  owed _ := 0

variable (V : Valuation τ sig (Elt F)) (c : Dev nD)

theorem before0_0 (t) (d) : (dat0 V c).before 0 t d = blkOf (cfg := cfg0) V 0 t :=
  ((dat0 V c).before_in_eq_fetched 0 rfl (fun _ => rfl) (fun _ _ _ => rfl) (fun _ => rfl) t d).trans rfl
theorem before0_1 (t) (d) : (dat0 V c).before 1 t d = blkOf (cfg := cfg0) V 1 t :=
  ((dat0 V c).before_in_eq_fetched 1 rfl (fun _ => rfl) (fun _ _ _ => rfl) (fun _ => rfl) t d).trans rfl

theorem body0 : BodyObligation (dat0 V c) (defs₀ (F := F)) Variants.none () Set.univ := fun t => by
  rw [bigSep_W0, bigSep_W0]
  simp only [staged c ((cfg0.win 0).stage (cfg0.slots t 0)) (stage_whole0 0 _), staged c ((cfg0.win 1).stage (cfg0.slots t 1)) (stage_whole0 1 _),
    staged c ((cfg0.win 2).stage (cfg0.slots t 2)) (stage_whole0 2 _)]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl]
  iintro ⟨HΦ, Howes, ⟨%d0, %f0, %hf0, H0⟩, ⟨%d1, %f1, %hf1, H1⟩, ⟨%d2, %f2, -, H2⟩⟩
  rw [before0_0] at hf0
  rw [before0_1] at hf1
  iapply (proj_run c Set.univ (grid0.coords t) _ (stage_whole0 0 _) _ (stage_whole0 1 _) _ (stage_whole0 2 _) f0 f1 f2 _)
  isplitl [H0]; · iexact H0
  isplitl [H1]; · iexact H1
  isplitl [H2]; · iexact H2
  iintro %W %hW H0 H1 H2
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  rw [hW]; exact congrArg₂ k0_pay1 hf0 hf1

end Cert.Proof.Nsa
-- ==== Proof.Nsa.Region1.lean ====
/- The compressed branch: what each head group leaves, and that its body leaves it. -/
module

public import proofs.«01_k».proof.Proof.Nsa.Region0

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- What the call's arrays hold at entry, and what each point leaves in the staging buffers. -/
def dat1 (V : Valuation τ sig (Elt F)) (c : Dev nD) : Dat τ (Elt F) Unit ℕ (UR sig nD τ) ℕ cfg1 c where
  A w := V (Proc.devRef .tc (Pipeline.arrRef spec1 w))
  after w t := match w with
    | ⟨0, _⟩ => blkOf (cfg := cfg1) V 0 t
    | ⟨1, _⟩ => blkOf (cfg := cfg1) V 1 t
    | ⟨2, _⟩ => blkOf (cfg := cfg1) V 2 t
    | ⟨3, _⟩ => cmpOut (blkOf (cfg := cfg1) V 0 t) (blkOf (cfg := cfg1) V 1 t) (blkOf (cfg := cfg1) V 2 t)
    | ⟨4, _⟩ => selFrom (ranks (importance (k1_pay2 (blkOf (cfg := cfg1) V 1 t)) (blkOf (cfg := cfg1) V 0 t)))
  Φ _ := Pipeline.scopedRest spec1 c
  q _ := fullShare
  owed _ := 0

variable (V : Valuation τ sig (Elt F)) (c : Dev nD)

theorem before1_0 (t) (d) : (dat1 V c).before 0 t d = blkOf (cfg := cfg1) V 0 t :=
  ((dat1 V c).before_in_eq_fetched 0 rfl (fun _ => rfl) (fun _ _ _ => rfl) (fun _ => rfl) t d).trans rfl
theorem before1_1 (t) (d) : (dat1 V c).before 1 t d = blkOf (cfg := cfg1) V 1 t :=
  ((dat1 V c).before_in_eq_fetched 1 rfl (fun _ => rfl) (fun _ _ _ => rfl) (fun _ => rfl) t d).trans rfl
theorem before1_2 (t) (d) : (dat1 V c).before 2 t d = blkOf (cfg := cfg1) V 2 t :=
  ((dat1 V c).before_in_eq_fetched 2 rfl (fun _ => rfl) (fun _ _ _ => rfl) (fun _ => rfl) t d).trans rfl

theorem body1 : BodyObligation (dat1 V c) (defs₀ (F := F)) Variants.none () Set.univ := fun t => by
  rw [bigSep_W1, bigSep_W1]
  simp only [staged c ((cfg1.win 0).stage (cfg1.slots t 0)) (stage_whole1 0 _),
    staged c ((cfg1.win 1).stage (cfg1.slots t 1)) (stage_whole1 1 _),
    staged c ((cfg1.win 2).stage (cfg1.slots t 2)) (stage_whole1 2 _),
    staged c ((cfg1.win 3).stage (cfg1.slots t 3)) (stage_whole1 3 _),
    staged c ((cfg1.win 4).stage (cfg1.slots t 4)) (stage_whole1 4 _)]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩⟩
  rw [before1_0] at hf0
  rw [before1_1] at hf1
  rw [before1_2] at hf2
  iapply (cmp_run c (grid1.coords t) _ (stage_whole1 0 _) _ (stage_whole1 1 _) _ (stage_whole1 2 _) _ (stage_whole1 3 _) _ (stage_whole1 4 _) f0 f1 f2 f3 f4 Set.univ _)
  isplitl [H0]; · iexact H0
  isplitl [H1]; · iexact H1
  isplitl [H2]; · iexact H2
  isplitl [H3]; · iexact H3
  isplitl [H4]; · iexact H4
  iintro %W0 %W1 %hW0 %hW1 H0 H1 H2 H3 H4
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]
  · iexists _; isplitr; swap; (· iexact H3); ipureintro
    rw [hW0, hf0, hf1, hf2]; rfl
  iexists _; isplitr; swap; (· iexact H4); ipureintro
  rw [hW1, hf0, hf1]; rfl

end Cert.Proof.Nsa
-- ==== Proof.Nsa.Region2.lean ====
/- The selected and windowed branches: what each head's query tile leaves, and that its body leaves it. -/
module

public import proofs.«01_k».proof.Proof.Nsa.Region0

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- What the call's arrays hold at entry, and what each point leaves in the staging buffers. -/
def dat2 (V : Valuation τ sig (Elt F)) (c : Dev nD) : Dat τ (Elt F) Unit ℕ (UR sig nD τ) ℕ cfg2 c where
  A w := V (Proc.devRef .tc (Pipeline.arrRef spec2 w))
  after w t := match w with
    | ⟨0, _⟩ => blkOf (cfg := cfg2) V 0 t
    | ⟨1, _⟩ => blkOf (cfg := cfg2) V 1 t
    | ⟨2, _⟩ => blkOf (cfg := cfg2) V 2 t
    | ⟨3, _⟩ => blkOf (cfg := cfg2) V 3 t
    | ⟨4, _⟩ => blkOf (cfg := cfg2) V 4 t
    | ⟨5, _⟩ => blkOf (cfg := cfg2) V 5 t
    | ⟨6, _⟩ => attnOut (BitVec.ofNat 32 (grid2.coords t 1).val) (blkOf (cfg := cfg2) V 0 t) (blkOf (cfg := cfg2) V 1 t) (blkOf (cfg := cfg2) V 2 t) (blkOf (cfg := cfg2) V 3 t) (blkOf (cfg := cfg2) V 4 t) (blkOf (cfg := cfg2) V 5 t)
  Φ _ := Pipeline.scopedRest spec2 c
  q _ := fullShare
  owed _ := 0

variable (V : Valuation τ sig (Elt F)) (c : Dev nD)

theorem before2_0 (t) (d) : (dat2 V c).before 0 t d = blkOf (cfg := cfg2) V 0 t :=
  ((dat2 V c).before_in_eq_fetched 0 rfl (fun _ => rfl) (fun _ _ _ => rfl) (fun _ => rfl) t d).trans rfl
theorem before2_1 (t) (d) : (dat2 V c).before 1 t d = blkOf (cfg := cfg2) V 1 t :=
  ((dat2 V c).before_in_eq_fetched 1 rfl (fun _ => rfl) (fun _ _ _ => rfl) (fun _ => rfl) t d).trans rfl
theorem before2_2 (t) (d) : (dat2 V c).before 2 t d = blkOf (cfg := cfg2) V 2 t :=
  ((dat2 V c).before_in_eq_fetched 2 rfl (fun _ => rfl) (fun _ _ _ => rfl) (fun _ => rfl) t d).trans rfl
theorem before2_3 (t) (d) : (dat2 V c).before 3 t d = blkOf (cfg := cfg2) V 3 t :=
  ((dat2 V c).before_in_eq_fetched 3 rfl (fun _ => rfl) (fun _ _ _ => rfl) (fun _ => rfl) t d).trans rfl
theorem before2_4 (t) (d) : (dat2 V c).before 4 t d = blkOf (cfg := cfg2) V 4 t :=
  ((dat2 V c).before_in_eq_fetched 4 rfl (fun _ => rfl) (fun _ _ _ => rfl) (fun _ => rfl) t d).trans rfl
theorem before2_5 (t) (d) : (dat2 V c).before 5 t d = blkOf (cfg := cfg2) V 5 t :=
  ((dat2 V c).before_in_eq_fetched 5 rfl (fun _ => rfl) (fun _ _ _ => rfl) (fun _ => rfl) t d).trans rfl

theorem body2 : BodyObligation (dat2 V c) (defs₀ (F := F)) Variants.none () Set.univ := fun t => by
  rw [bigSep_W2, bigSep_W2]
  simp only [staged c ((cfg2.win 0).stage (cfg2.slots t 0)) (stage_whole2 0 _),
    staged c ((cfg2.win 1).stage (cfg2.slots t 1)) (stage_whole2 1 _),
    staged c ((cfg2.win 2).stage (cfg2.slots t 2)) (stage_whole2 2 _),
    staged c ((cfg2.win 3).stage (cfg2.slots t 3)) (stage_whole2 3 _),
    staged c ((cfg2.win 4).stage (cfg2.slots t 4)) (stage_whole2 4 _),
    staged c ((cfg2.win 5).stage (cfg2.slots t 5)) (stage_whole2 5 _),
    staged c ((cfg2.win 6).stage (cfg2.slots t 6)) (stage_whole2 6 _)]
  rw [show (dat2 V c).Φ t.castSucc = Pipeline.scopedRest spec2 c from rfl, show (dat2 V c).Φ t.succ = Pipeline.scopedRest spec2 c from rfl,
    show (dat2 V c).owesAt () t.succ = (dat2 V c).owesAt () t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  rw [before2_0] at hf0
  rw [before2_1] at hf1
  rw [before2_2] at hf2
  rw [before2_3] at hf3
  rw [before2_4] at hf4
  rw [before2_5] at hf5
  iapply (attn_run c (grid2.coords t) _ (stage_whole2 0 _) _ (stage_whole2 1 _) _ (stage_whole2 2 _) _ (stage_whole2 3 _) _ (stage_whole2 4 _) _ (stage_whole2 5 _) _ (stage_whole2 6 _) f0 f1 f2 f3 f4 f5 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %W0 %hW0 H0 H1 H2 H3 H4 H5 H6
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  iexists _; isplitr; swap; (· iexact H6); ipureintro
  rw [hW0, hf0, hf1, hf2, hf3, hf4, hf5]; rfl

end Cert.Proof.Nsa
-- ==== Proof.Nsa.Region3.lean ====
/- The output projection: what each grid point leaves, and that its body leaves it. -/
module

public import proofs.«01_k».proof.Proof.Nsa.Region0

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- What the call's arrays hold at entry, and what each point leaves in the staging buffers. -/
def dat3 (V : Valuation τ sig (Elt F)) (c : Dev nD) : Dat τ (Elt F) Unit ℕ (UR sig nD τ) ℕ cfg3 c where
  A w := V (Proc.devRef .tc (Pipeline.arrRef spec3 w))
  after w t := match w with
    | ⟨0, _⟩ => blkOf (cfg := cfg3) V 0 t
    | ⟨1, _⟩ => blkOf (cfg := cfg3) V 1 t
    | ⟨2, _⟩ => k3_pay1 (blkOf (cfg := cfg3) V 0 t) (blkOf (cfg := cfg3) V 1 t)
  Φ _ := Pipeline.scopedRest spec3 c
  q _ := fullShare
  owed _ := 0

variable (V : Valuation τ sig (Elt F)) (c : Dev nD)

theorem before3_0 (t) (d) : (dat3 V c).before 0 t d = blkOf (cfg := cfg3) V 0 t :=
  ((dat3 V c).before_in_eq_fetched 0 rfl (fun _ => rfl) (fun _ _ _ => rfl) (fun _ => rfl) t d).trans rfl
theorem before3_1 (t) (d) : (dat3 V c).before 1 t d = blkOf (cfg := cfg3) V 1 t :=
  ((dat3 V c).before_in_eq_fetched 1 rfl (fun _ => rfl) (fun _ _ _ => rfl) (fun _ => rfl) t d).trans rfl

theorem body3 : BodyObligation (dat3 V c) (defs₀ (F := F)) Variants.none () Set.univ := fun t => by
  rw [bigSep_W3, bigSep_W3]
  simp only [staged c ((cfg3.win 0).stage (cfg3.slots t 0)) (stage_whole3 0 _),
    staged c ((cfg3.win 1).stage (cfg3.slots t 1)) (stage_whole3 1 _),
    staged c ((cfg3.win 2).stage (cfg3.slots t 2)) (stage_whole3 2 _)]
  rw [show (dat3 V c).Φ t.castSucc = Pipeline.scopedRest spec3 c from rfl, show (dat3 V c).Φ t.succ = Pipeline.scopedRest spec3 c from rfl,
    show (dat3 V c).owesAt () t.succ = (dat3 V c).owesAt () t.castSucc from rfl]
  iintro ⟨HΦ, Howes, ⟨%d0, %f0, %hf0, H0⟩, ⟨%d1, %f1, %hf1, H1⟩, ⟨%d2, %f2, -, H2⟩⟩
  rw [before3_0] at hf0
  rw [before3_1] at hf1
  iapply (out_run c Set.univ (grid3.coords t) _ (stage_whole3 0 _) _ (stage_whole3 1 _) _ (stage_whole3 2 _) f0 f1 f2 _)
  isplitl [H0]; · iexact H0
  isplitl [H1]; · iexact H1
  isplitl [H2]; · iexact H2
  iintro %W0 %hW0 H0 H1 H2
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  rw [hW0, hf0, hf1]; rfl

end Cert.Proof.Nsa
-- ==== Proof.Nsa.Launch.lean ====
/- The whole program's run: the host stretches and the four calls in order, from any memory. -/
module

public import proofs.«01_k».proof.Proof.Nsa.Region0
public import proofs.«01_k».proof.Proof.Nsa.Region1
public import proofs.«01_k».proof.Proof.Nsa.Region2
public import proofs.«01_k».proof.Proof.Nsa.Region3

@[expose] public section

noncomputable section

namespace Cert.Proof.Nsa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg HostSeg Seg afterRegion)

variable {F : FTy → Type} [FloatOps F] [Named F]

local notation "𝕄" => MT nD τ sig Unit (Elt F) ℕ (UR sig nD τ) ℕ

variable (m : (ℓ : Loc nD τ sig) → Buf (Elt F) ℓ)

/-! ### The buffers after each item of the program -/

def W1 (c : Dev nD) : Valuation τ sig (Elt F) := StableHlo.after hostOps0 (V0 m c)
def W2 (c : Dev nD) : Valuation τ sig (Elt F) := afterRegion (dat0 (W1 m c) c) (W1 m c)
def W3 (c : Dev nD) : Valuation τ sig (Elt F) := StableHlo.after hostOps1 (W2 m c)
def W4 (c : Dev nD) : Valuation τ sig (Elt F) := afterRegion (dat1 (W3 m c) c) (W3 m c)
def W5 (c : Dev nD) : Valuation τ sig (Elt F) := StableHlo.after hostOps2 (W4 m c)
def W6 (c : Dev nD) : Valuation τ sig (Elt F) := afterRegion (dat2 (W5 m c) c) (W5 m c)
def W7 (c : Dev nD) : Valuation τ sig (Elt F) := StableHlo.after hostOps3 (W6 m c)
def W8 (c : Dev nD) : Valuation τ sig (Elt F) := afterRegion (dat3 (W7 m c) c) (W7 m c)
def W9 (c : Dev nD) : Valuation τ sig (Elt F) := StableHlo.after hostOps4 (W8 m c)

/-- The four calls' contents, each from where the program has come to. -/
def pdats : (p : Fin 4) → (c : Dev nD) → Dat τ (Elt F) Unit ℕ (UR sig nD τ) ℕ (cfgs p) c
  | ⟨0, _⟩ => fun c => dat0 (W1 m c) c
  | ⟨1, _⟩ => fun c => dat1 (W3 m c) c
  | ⟨2, _⟩ => fun c => dat2 (W5 m c) c
  | ⟨3, _⟩ => fun c => dat3 (W7 m c) c
  | ⟨_ + 4, h⟩ => absurd h (Nat.not_lt.2 (Nat.le_add_left _ _))

abbrev lset : GSem nD τ sig → Finset Unit := fun g => if g.1.2 = .tc then {()} else ∅
abbrev lval : GSem nD τ sig → Unit → ℕ := fun _ _ => 0

theorem levels (p : Fin 4) : Pipeline.LevelCut (pcfgs (F := F)) adm () lset lval p (fun _ => 0) (fun _ => 0) where
  hι _ _ _ := by simp [lset]
  hιb _ _ _ := le_rfl
  hD _ _ _ h := absurd h (lt_irrefl _)

/-- What rides beside the buffers: the core owes nothing. -/
abbrev idleE (c : Dev nD) : sProp 𝕄 := iprop((∃ Wd, owes (c : Thread nD τ) (0 : CellTallies nD τ sig Unit) Wd) ∗ emp ∗ emp)

theorem rest_in {P Q : sProp 𝕄} (h : P = Q) : iprop(P ∗ emp) ⊢ Q := by subst h; iintro ⟨H, -⟩; iexact H
theorem rest_out {P Q : sProp 𝕄} (h : P = Q) : Q ⊢ iprop(P ∗ emp) := by subst h; iintro H; isplitl [H]; (· iexact H); iempintro

theorem share_full {cfg : Cfg sig Λ₀} {c : Dev nD} (d : Dat τ (Elt F) Unit ℕ (UR sig nD τ) ℕ cfg c) (h : ∀ w, d.q w = fullShare) (w) :
    d.share w = fullShare := by
  unfold Dat.share; split
  · rfl
  · exact h w

theorem kit0 : Pipeline.PLaunchFacts (nD := nD) (τ := τ) (pcfgs (F := F)) 0 := (launch0).toP (Val := Elt F)
theorem hbody0 (c : Dev nD) : Pipeline.BodyObligationLoose (pdats m 0 c) (defs₀ (F := F)) Variants.none () Set.univ :=
  (show Pipeline.BodyObligationLoose (dat0 (W1 m c) c) (defs₀ (F := F)) Variants.none () Set.univ from (body0 (W1 m c) c).loose)
theorem hshare0 (c : Dev nD) (w) : (pdats m 0 c).share w = fullShare := share_full (pdats m 0 c) (fun _ => rfl) w
theorem inv0 (c : Dev nD) (t) : (pdats m 0 c).Φ t = Pipeline.scopedRest spec0 c := rfl
theorem spec_rest0 (c : Dev nD) : (Pipeline.scopedRest (Pipeline.pin (pcfgs (F := F)) adm 0).spec c : sProp 𝕄) = Pipeline.scopedRest spec0 c := rfl
theorem hin0 (c : Dev nD) : iprop(Pipeline.scopedRest (Pipeline.pin (pcfgs (F := F)) adm 0).spec c ∗ emp) ⊢ (pdats m 0 c).Φ 0 :=
  rest_in ((spec_rest0 c).trans (inv0 m c _).symm)
theorem hout0 (c : Dev nD) : (pdats m 0 c).Φ (Fin.last (Pipeline.pin (pcfgs (F := F)) adm 0).N)
    ⊢ iprop(Pipeline.scopedRest (Pipeline.pin (pcfgs (F := F)) adm 0).spec c ∗ emp) :=
  rest_out ((spec_rest0 c).trans (inv0 m c _).symm)
theorem hW0 (c : Dev nD) (w) :
    (pdats m 0 c).arrAt w 0 = W1 m c (Proc.devRef .tc (Pipeline.arrRef (Pipeline.pin (pcfgs (F := F)) adm 0).spec w)) := rfl

set_option backward.isDefEq.respectTransparency.types false in
/-- Call 0 over the buffers as the program has them. -/
def reg0 : RegionSeg (pcfgs (F := F)) adm (pdats m) () defs₀ Variants.none lset lval 0 :=
  RegionSeg.ofHeldIn (pcfgs (F := F)) adm (pdats m) () defs₀ Variants.none lset lval 0 (fun _ => 0) (Pipeline.ucRefs τ sig)
    (fun _ => iprop(emp)) (fun _ => iprop(emp)) (kit0 (F := F)) rfl (hbody0 m) (fun _ _ => rfl) (fun _ => rfl)
    (hshare0 m) (hin0 m) (hout0 m) (fun _ => 0) (levels 0) (fun _ => iprop(emp)) (W1 m) (hW0 m)

theorem kit1 : Pipeline.PLaunchFacts (nD := nD) (τ := τ) (pcfgs (F := F)) 1 := (launch1).toP (Val := Elt F)
theorem hbody1 (c : Dev nD) : Pipeline.BodyObligationLoose (pdats m 1 c) (defs₀ (F := F)) Variants.none () Set.univ :=
  (show Pipeline.BodyObligationLoose (dat1 (W3 m c) c) (defs₀ (F := F)) Variants.none () Set.univ from (body1 (W3 m c) c).loose)
theorem hshare1 (c : Dev nD) (w) : (pdats m 1 c).share w = fullShare := share_full (pdats m 1 c) (fun _ => rfl) w
theorem inv1 (c : Dev nD) (t) : (pdats m 1 c).Φ t = Pipeline.scopedRest spec1 c := rfl
theorem spec_rest1 (c : Dev nD) : (Pipeline.scopedRest (Pipeline.pin (pcfgs (F := F)) adm 1).spec c : sProp 𝕄) = Pipeline.scopedRest spec1 c := rfl
theorem hin1 (c : Dev nD) : iprop(Pipeline.scopedRest (Pipeline.pin (pcfgs (F := F)) adm 1).spec c ∗ emp) ⊢ (pdats m 1 c).Φ 0 :=
  rest_in ((spec_rest1 c).trans (inv1 m c _).symm)
theorem hout1 (c : Dev nD) : (pdats m 1 c).Φ (Fin.last (Pipeline.pin (pcfgs (F := F)) adm 1).N)
    ⊢ iprop(Pipeline.scopedRest (Pipeline.pin (pcfgs (F := F)) adm 1).spec c ∗ emp) :=
  rest_out ((spec_rest1 c).trans (inv1 m c _).symm)
theorem hW1 (c : Dev nD) (w) :
    (pdats m 1 c).arrAt w 0 = W3 m c (Proc.devRef .tc (Pipeline.arrRef (Pipeline.pin (pcfgs (F := F)) adm 1).spec w)) := rfl

set_option backward.isDefEq.respectTransparency.types false in
/-- Call 1 over the buffers as the program has them. -/
def reg1 : RegionSeg (pcfgs (F := F)) adm (pdats m) () defs₀ Variants.none lset lval 1 :=
  RegionSeg.ofHeldIn (pcfgs (F := F)) adm (pdats m) () defs₀ Variants.none lset lval 1 (fun _ => 0) (Pipeline.ucRefs τ sig)
    (fun _ => iprop(emp)) (fun _ => iprop(emp)) (kit1 (F := F)) rfl (hbody1 m) (fun _ _ => rfl) (fun _ => rfl)
    (hshare1 m) (hin1 m) (hout1 m) (fun _ => 0) (levels 1) (fun _ => iprop(emp)) (W3 m) (hW1 m)

theorem kit2 : Pipeline.PLaunchFacts (nD := nD) (τ := τ) (pcfgs (F := F)) 2 := (launch2).toP (Val := Elt F)
theorem hbody2 (c : Dev nD) : Pipeline.BodyObligationLoose (pdats m 2 c) (defs₀ (F := F)) Variants.none () Set.univ :=
  (show Pipeline.BodyObligationLoose (dat2 (W5 m c) c) (defs₀ (F := F)) Variants.none () Set.univ from (body2 (W5 m c) c).loose)
theorem hshare2 (c : Dev nD) (w) : (pdats m 2 c).share w = fullShare := share_full (pdats m 2 c) (fun _ => rfl) w
theorem inv2 (c : Dev nD) (t) : (pdats m 2 c).Φ t = Pipeline.scopedRest spec2 c := rfl
theorem spec_rest2 (c : Dev nD) : (Pipeline.scopedRest (Pipeline.pin (pcfgs (F := F)) adm 2).spec c : sProp 𝕄) = Pipeline.scopedRest spec2 c := rfl
theorem hin2 (c : Dev nD) : iprop(Pipeline.scopedRest (Pipeline.pin (pcfgs (F := F)) adm 2).spec c ∗ emp) ⊢ (pdats m 2 c).Φ 0 :=
  rest_in ((spec_rest2 c).trans (inv2 m c _).symm)
theorem hout2 (c : Dev nD) : (pdats m 2 c).Φ (Fin.last (Pipeline.pin (pcfgs (F := F)) adm 2).N)
    ⊢ iprop(Pipeline.scopedRest (Pipeline.pin (pcfgs (F := F)) adm 2).spec c ∗ emp) :=
  rest_out ((spec_rest2 c).trans (inv2 m c _).symm)
theorem hW2 (c : Dev nD) (w) :
    (pdats m 2 c).arrAt w 0 = W5 m c (Proc.devRef .tc (Pipeline.arrRef (Pipeline.pin (pcfgs (F := F)) adm 2).spec w)) := rfl

set_option backward.isDefEq.respectTransparency.types false in
/-- Call 2 over the buffers as the program has them. -/
def reg2 : RegionSeg (pcfgs (F := F)) adm (pdats m) () defs₀ Variants.none lset lval 2 :=
  RegionSeg.ofHeldIn (pcfgs (F := F)) adm (pdats m) () defs₀ Variants.none lset lval 2 (fun _ => 0) (Pipeline.ucRefs τ sig)
    (fun _ => iprop(emp)) (fun _ => iprop(emp)) (kit2 (F := F)) rfl (hbody2 m) (fun _ _ => rfl) (fun _ => rfl)
    (hshare2 m) (hin2 m) (hout2 m) (fun _ => 0) (levels 2) (fun _ => iprop(emp)) (W5 m) (hW2 m)

theorem kit3 : Pipeline.PLaunchFacts (nD := nD) (τ := τ) (pcfgs (F := F)) 3 := (launch3).toP (Val := Elt F)
theorem hbody3 (c : Dev nD) : Pipeline.BodyObligationLoose (pdats m 3 c) (defs₀ (F := F)) Variants.none () Set.univ :=
  (show Pipeline.BodyObligationLoose (dat3 (W7 m c) c) (defs₀ (F := F)) Variants.none () Set.univ from (body3 (W7 m c) c).loose)
theorem hshare3 (c : Dev nD) (w) : (pdats m 3 c).share w = fullShare := share_full (pdats m 3 c) (fun _ => rfl) w
theorem inv3 (c : Dev nD) (t) : (pdats m 3 c).Φ t = Pipeline.scopedRest spec3 c := rfl
theorem spec_rest3 (c : Dev nD) : (Pipeline.scopedRest (Pipeline.pin (pcfgs (F := F)) adm 3).spec c : sProp 𝕄) = Pipeline.scopedRest spec3 c := rfl
theorem hin3 (c : Dev nD) : iprop(Pipeline.scopedRest (Pipeline.pin (pcfgs (F := F)) adm 3).spec c ∗ emp) ⊢ (pdats m 3 c).Φ 0 :=
  rest_in ((spec_rest3 c).trans (inv3 m c _).symm)
theorem hout3 (c : Dev nD) : (pdats m 3 c).Φ (Fin.last (Pipeline.pin (pcfgs (F := F)) adm 3).N)
    ⊢ iprop(Pipeline.scopedRest (Pipeline.pin (pcfgs (F := F)) adm 3).spec c ∗ emp) :=
  rest_out ((spec_rest3 c).trans (inv3 m c _).symm)
theorem hW3 (c : Dev nD) (w) :
    (pdats m 3 c).arrAt w 0 = W7 m c (Proc.devRef .tc (Pipeline.arrRef (Pipeline.pin (pcfgs (F := F)) adm 3).spec w)) := rfl

set_option backward.isDefEq.respectTransparency.types false in
/-- Call 3 over the buffers as the program has them. -/
def reg3 : RegionSeg (pcfgs (F := F)) adm (pdats m) () defs₀ Variants.none lset lval 3 :=
  RegionSeg.ofHeldIn (pcfgs (F := F)) adm (pdats m) () defs₀ Variants.none lset lval 3 (fun _ => 0) (Pipeline.ucRefs τ sig)
    (fun _ => iprop(emp)) (fun _ => iprop(emp)) (kit3 (F := F)) rfl (hbody3 m) (fun _ _ => rfl) (fun _ => rfl)
    (hshare3 m) (hin3 m) (hout3 m) (fun _ => 0) (levels 3) (fun _ => iprop(emp)) (W7 m) (hW3 m)

def host0 : HostSeg (Ix := Unit) (Name := ℕ) (U := UR sig nD τ) (Lvl := ℕ) (pcfgs (F := F)) defs₀ Variants.none lset lval :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) idleE

def host1 : HostSeg (Ix := Unit) (Name := ℕ) (U := UR sig nD τ) (Lvl := ℕ) (pcfgs (F := F)) defs₀ Variants.none lset lval :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) idleE

def host2 : HostSeg (Ix := Unit) (Name := ℕ) (U := UR sig nD τ) (Lvl := ℕ) (pcfgs (F := F)) defs₀ Variants.none lset lval :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) idleE

def host3 : HostSeg (Ix := Unit) (Name := ℕ) (U := UR sig nD τ) (Lvl := ℕ) (pcfgs (F := F)) defs₀ Variants.none lset lval :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) idleE

def host4 : HostSeg (Ix := Unit) (Name := ℕ) (U := UR sig nD τ) (Lvl := ℕ) (pcfgs (F := F)) defs₀ Variants.none lset lval :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W8 m) idleE

theorem arrs0 : Pipeline.arrRefs (τ := τ) (pcfgs (F := F) 0).spec ⊆ Pipeline.ucRefs τ sig := Pipeline.arrRefs_sub_ucRefs spec0 winFacts0.arr_unscoped
theorem pre0 (c : Dev nD) : iprop(StableHlo.held (c : Thread nD τ) (Pipeline.ucRefs τ sig) (W1 m c) ∗ idleE c) ⊢ (reg0 m).pre c :=
  RegionSeg.ofHeldIn_pre (pcs := pcfgs (F := F)) (a := adm) (pdats := pdats m) (ι := ()) (defs₀ := defs₀) (𝒱₀ := Variants.none) (L := lset) (lv := lval) (p := 0) (D := fun _ => 0)
    (S := Pipeline.ucRefs τ sig) (X := fun _ => iprop(emp)) (Y := fun _ => iprop(emp)) (kit := kit0 (F := F)) (hK := rfl) (hbody := hbody0 m) (howed := fun _ _ => rfl)
    (hrec := fun _ => rfl) (hshare := hshare0 m) (hin := hin0 m) (hout := hout0 m) (b := fun _ => 0) (hcut := levels 0) (R := fun _ => iprop(emp)) (W := W1 m) (hW := hW0 m)
    (arrs0 (F := F)) c
theorem post0 (c : Dev nD) : (reg0 m).post c ⊢ iprop(StableHlo.held (c : Thread nD τ) (Pipeline.ucRefs τ sig) (W2 m c) ∗ idleE c) :=
  RegionSeg.ofHeldIn_post (pcs := pcfgs (F := F)) (a := adm) (pdats := pdats m) (ι := ()) (defs₀ := defs₀) (𝒱₀ := Variants.none) (L := lset) (lv := lval) (p := 0) (D := fun _ => 0)
    (S := Pipeline.ucRefs τ sig) (X := fun _ => iprop(emp)) (Y := fun _ => iprop(emp)) (kit := kit0 (F := F)) (hK := rfl) (hbody := hbody0 m) (howed := fun _ _ => rfl)
    (hrec := fun _ => rfl) (hshare := hshare0 m) (hin := hin0 m) (hout := hout0 m) (b := fun _ => 0) (hcut := levels 0) (R := fun _ => iprop(emp)) (W := W1 m) (hW := hW0 m)
    (arrs0 (F := F)) c

theorem arrs1 : Pipeline.arrRefs (τ := τ) (pcfgs (F := F) 1).spec ⊆ Pipeline.ucRefs τ sig := Pipeline.arrRefs_sub_ucRefs spec1 winFacts1.arr_unscoped
theorem pre1 (c : Dev nD) : iprop(StableHlo.held (c : Thread nD τ) (Pipeline.ucRefs τ sig) (W3 m c) ∗ idleE c) ⊢ (reg1 m).pre c :=
  RegionSeg.ofHeldIn_pre (pcs := pcfgs (F := F)) (a := adm) (pdats := pdats m) (ι := ()) (defs₀ := defs₀) (𝒱₀ := Variants.none) (L := lset) (lv := lval) (p := 1) (D := fun _ => 0)
    (S := Pipeline.ucRefs τ sig) (X := fun _ => iprop(emp)) (Y := fun _ => iprop(emp)) (kit := kit1 (F := F)) (hK := rfl) (hbody := hbody1 m) (howed := fun _ _ => rfl)
    (hrec := fun _ => rfl) (hshare := hshare1 m) (hin := hin1 m) (hout := hout1 m) (b := fun _ => 0) (hcut := levels 1) (R := fun _ => iprop(emp)) (W := W3 m) (hW := hW1 m)
    (arrs1 (F := F)) c
theorem post1 (c : Dev nD) : (reg1 m).post c ⊢ iprop(StableHlo.held (c : Thread nD τ) (Pipeline.ucRefs τ sig) (W4 m c) ∗ idleE c) :=
  RegionSeg.ofHeldIn_post (pcs := pcfgs (F := F)) (a := adm) (pdats := pdats m) (ι := ()) (defs₀ := defs₀) (𝒱₀ := Variants.none) (L := lset) (lv := lval) (p := 1) (D := fun _ => 0)
    (S := Pipeline.ucRefs τ sig) (X := fun _ => iprop(emp)) (Y := fun _ => iprop(emp)) (kit := kit1 (F := F)) (hK := rfl) (hbody := hbody1 m) (howed := fun _ _ => rfl)
    (hrec := fun _ => rfl) (hshare := hshare1 m) (hin := hin1 m) (hout := hout1 m) (b := fun _ => 0) (hcut := levels 1) (R := fun _ => iprop(emp)) (W := W3 m) (hW := hW1 m)
    (arrs1 (F := F)) c

theorem arrs2 : Pipeline.arrRefs (τ := τ) (pcfgs (F := F) 2).spec ⊆ Pipeline.ucRefs τ sig := Pipeline.arrRefs_sub_ucRefs spec2 winFacts2.arr_unscoped
theorem pre2 (c : Dev nD) : iprop(StableHlo.held (c : Thread nD τ) (Pipeline.ucRefs τ sig) (W5 m c) ∗ idleE c) ⊢ (reg2 m).pre c :=
  RegionSeg.ofHeldIn_pre (pcs := pcfgs (F := F)) (a := adm) (pdats := pdats m) (ι := ()) (defs₀ := defs₀) (𝒱₀ := Variants.none) (L := lset) (lv := lval) (p := 2) (D := fun _ => 0)
    (S := Pipeline.ucRefs τ sig) (X := fun _ => iprop(emp)) (Y := fun _ => iprop(emp)) (kit := kit2 (F := F)) (hK := rfl) (hbody := hbody2 m) (howed := fun _ _ => rfl)
    (hrec := fun _ => rfl) (hshare := hshare2 m) (hin := hin2 m) (hout := hout2 m) (b := fun _ => 0) (hcut := levels 2) (R := fun _ => iprop(emp)) (W := W5 m) (hW := hW2 m)
    (arrs2 (F := F)) c
theorem post2 (c : Dev nD) : (reg2 m).post c ⊢ iprop(StableHlo.held (c : Thread nD τ) (Pipeline.ucRefs τ sig) (W6 m c) ∗ idleE c) :=
  RegionSeg.ofHeldIn_post (pcs := pcfgs (F := F)) (a := adm) (pdats := pdats m) (ι := ()) (defs₀ := defs₀) (𝒱₀ := Variants.none) (L := lset) (lv := lval) (p := 2) (D := fun _ => 0)
    (S := Pipeline.ucRefs τ sig) (X := fun _ => iprop(emp)) (Y := fun _ => iprop(emp)) (kit := kit2 (F := F)) (hK := rfl) (hbody := hbody2 m) (howed := fun _ _ => rfl)
    (hrec := fun _ => rfl) (hshare := hshare2 m) (hin := hin2 m) (hout := hout2 m) (b := fun _ => 0) (hcut := levels 2) (R := fun _ => iprop(emp)) (W := W5 m) (hW := hW2 m)
    (arrs2 (F := F)) c

theorem arrs3 : Pipeline.arrRefs (τ := τ) (pcfgs (F := F) 3).spec ⊆ Pipeline.ucRefs τ sig := Pipeline.arrRefs_sub_ucRefs spec3 winFacts3.arr_unscoped
theorem pre3 (c : Dev nD) : iprop(StableHlo.held (c : Thread nD τ) (Pipeline.ucRefs τ sig) (W7 m c) ∗ idleE c) ⊢ (reg3 m).pre c :=
  RegionSeg.ofHeldIn_pre (pcs := pcfgs (F := F)) (a := adm) (pdats := pdats m) (ι := ()) (defs₀ := defs₀) (𝒱₀ := Variants.none) (L := lset) (lv := lval) (p := 3) (D := fun _ => 0)
    (S := Pipeline.ucRefs τ sig) (X := fun _ => iprop(emp)) (Y := fun _ => iprop(emp)) (kit := kit3 (F := F)) (hK := rfl) (hbody := hbody3 m) (howed := fun _ _ => rfl)
    (hrec := fun _ => rfl) (hshare := hshare3 m) (hin := hin3 m) (hout := hout3 m) (b := fun _ => 0) (hcut := levels 3) (R := fun _ => iprop(emp)) (W := W7 m) (hW := hW3 m)
    (arrs3 (F := F)) c
theorem post3 (c : Dev nD) : (reg3 m).post c ⊢ iprop(StableHlo.held (c : Thread nD τ) (Pipeline.ucRefs τ sig) (W8 m c) ∗ idleE c) :=
  RegionSeg.ofHeldIn_post (pcs := pcfgs (F := F)) (a := adm) (pdats := pdats m) (ι := ()) (defs₀ := defs₀) (𝒱₀ := Variants.none) (L := lset) (lv := lval) (p := 3) (D := fun _ => 0)
    (S := Pipeline.ucRefs τ sig) (X := fun _ => iprop(emp)) (Y := fun _ => iprop(emp)) (kit := kit3 (F := F)) (hK := rfl) (hbody := hbody3 m) (howed := fun _ _ => rfl)
    (hrec := fun _ => rfl) (hshare := hshare3 m) (hin := hin3 m) (hout := hout3 m) (b := fun _ => 0) (hcut := levels 3) (R := fun _ => iprop(emp)) (W := W7 m) (hW := hW3 m)
    (arrs3 (F := F)) c

/-- The program as its items, the same on every core. -/
abbrev items (c : Dev nD) : List (Seg (pcfgs (F := F)) adm (pdats m) () defs₀ Variants.none lset lval) :=
  [.host (host0 m), .region (reg0 m), .host (host1 m), .region (reg1 m), .host (host2 m), .region (reg2 m), .host (host3 m), .region (reg3 m), .host (host4 m)]

set_option backward.isDefEq.respectTransparency.types false in
/-- From any memory with every counter at zero the program ends, each core's unscoped buffers hold what its items
    leave, and every counter is back at zero. -/
theorem run_main (ρ : Dev nD → PrngReg) : θ_run defs (onTc (τ := τ) (main (F := F))) ⟨m, fun _ => 0, ρ⟩ (fun r =>
    (∀ c : Dev nD, ∀ b ∈ Pipeline.ucRefs τ sig, r.2.mem ((c : Thread nD τ).1, b) = W9 m c b) ∧ r.2.sem = fun _ => 0) := by
  refine Pipeline.θ_run_regions_kit_dev_sems (pcfgs (F := F)) adm (pdats m) () cellOf_inj emb₁ defs₀ Variants.none lset lval m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [items, Seg.pipes_host, Seg.pipes_region, Seg.pipes_nil]; decide) (fun _ => 0) (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idleE c))
    (Tₙ := fun c => StableHlo.held (c : Thread nD τ) (Pipeline.ucRefs τ sig) (W9 m c))
    (hch := fun c => ⟨.rfl, pre0 m c, post0 m c, pre1 m c, post1 m c, pre2 m c, post2 m c, pre3 m c, post3 m c, sep_mono .rfl (by iintro ⟨H, -, -⟩; iexact H)⟩)
    (hinit := Pipeline.initEach lset lval fun c => ?_)
    (QY := fun c s => ∀ b ∈ Pipeline.ucRefs τ sig, s.mem ((c : Thread nD τ).1, b) = W9 m c b)
    (hfin := fun c s' => ?_) (hQ := fun _ h hz => ⟨h, funext fun g => hz g (.inr (regions_no_unscoped g.2))⟩)
  · rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (W9 m c) s') $$ [Hh HSI]
    · isplitl [Hh] <;> iassumption
    imodintro; iexact Hr

end Cert.Proof.Nsa
-- ==== Proof.Nsa.End.lean ====
/- Where the program ends: what its result holds, its arguments unchanged, every counter at zero. -/
module

public import proofs.«01_k».proof.Proof.Nsa.Launch

@[expose] public section

noncomputable section

namespace Cert.Proof.Nsa

open Cert.KernelIdeal Cert.KernelIdeal.Gen
open Idealize.ShloMosaic Idealize.ShloMosaic.TcCoe Idealize.SL.Sem

variable {F : FTy → Type} [FloatOps F] [Named F] (m : (ℓ : Loc nD τ sig) → Buf (Elt F) ℓ)

/-- A buffer that no host stretch writes and no call returns holds at the end what it held at launch. -/
theorem keeps (c : Dev nD) (r : Ref sig .tc) (h0 : r ∉ hostOps0_W) (g0 : ∀ w, Pipeline.arrRef cfg0.spec w = r → (cfg0.win w).isOut = false)
    (h1 : r ∉ hostOps1_W) (g1 : ∀ w, Pipeline.arrRef cfg1.spec w = r → (cfg1.win w).isOut = false)
    (h2 : r ∉ hostOps2_W) (g2 : ∀ w, Pipeline.arrRef cfg2.spec w = r → (cfg2.win w).isOut = false)
    (h3 : r ∉ hostOps3_W) (g3 : ∀ w, Pipeline.arrRef cfg3.spec w = r → (cfg3.win w).isOut = false) (h4 : r ∉ hostOps4_W) :
    W9 m c r = m ((c : Thread nD τ).loc r) :=
  (StableHlo.after_of_writes_sub hostOps4 _ hostOps4_writes h4).trans <|
    (Pipeline.afterRegion_keeps (dat3 (W7 m c) c) (W7 m c) winFacts3.arr_inj (fun _ => rfl) r g3).trans <|
    (StableHlo.after_of_writes_sub hostOps3 _ hostOps3_writes h3).trans <|
    (Pipeline.afterRegion_keeps (dat2 (W5 m c) c) (W5 m c) winFacts2.arr_inj (fun _ => rfl) r g2).trans <|
    (StableHlo.after_of_writes_sub hostOps2 _ hostOps2_writes h2).trans <|
    (Pipeline.afterRegion_keeps (dat1 (W3 m c) c) (W3 m c) winFacts1.arr_inj (fun _ => rfl) r g1).trans <|
    (StableHlo.after_of_writes_sub hostOps1 _ hostOps1_writes h1).trans <|
    (Pipeline.afterRegion_keeps (dat0 (W1 m c) c) (W1 m c) winFacts0.arr_inj (fun _ => rfl) r g0).trans <|
    (StableHlo.after_of_writes_sub hostOps0 _ hostOps0_writes h0).trans rfl

theorem keeps_arg0 (c : Dev nD) : W9 m c main_arg0 = m ((c : Thread nD τ).loc main_arg0) :=
  keeps m c main_arg0 (by decide) (by decide) (by decide) (by decide) (by decide) (by decide) (by decide) (by decide) (by decide)
theorem keeps_arg1 (c : Dev nD) : W9 m c main_arg1 = m ((c : Thread nD τ).loc main_arg1) :=
  keeps m c main_arg1 (by decide) (by decide) (by decide) (by decide) (by decide) (by decide) (by decide) (by decide) (by decide)
theorem keeps_arg2 (c : Dev nD) : W9 m c main_arg2 = m ((c : Thread nD τ).loc main_arg2) :=
  keeps m c main_arg2 (by decide) (by decide) (by decide) (by decide) (by decide) (by decide) (by decide) (by decide) (by decide)
theorem keeps_arg3 (c : Dev nD) : W9 m c main_arg3 = m ((c : Thread nD τ).loc main_arg3) :=
  keeps m c main_arg3 (by decide) (by decide) (by decide) (by decide) (by decide) (by decide) (by decide) (by decide) (by decide)
theorem keeps_arg4 (c : Dev nD) : W9 m c main_arg4 = m ((c : Thread nD τ).loc main_arg4) :=
  keeps m c main_arg4 (by decide) (by decide) (by decide) (by decide) (by decide) (by decide) (by decide) (by decide) (by decide)
theorem keeps_arg5 (c : Dev nD) : W9 m c main_arg5 = m ((c : Thread nD τ).loc main_arg5) :=
  keeps m c main_arg5 (by decide) (by decide) (by decide) (by decide) (by decide) (by decide) (by decide) (by decide) (by decide)

/-- The program's end: its result as the items leave it, its arguments unchanged, the counters at zero. -/
theorem run_whole (ρ : Dev nD → PrngReg) : θ_run defs (onTc (τ := τ) (main (F := F))) ⟨m, fun _ => 0, ρ⟩ (fun r =>
    (∀ c : Dev nD, r.2.mem ((c.tc : Thread nD τ).loc main_v19) = W9 m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r h => ⟨fun c => ⟨h.1 c (Proc.devRef .tc main_v19) (Pipeline.devRef_mem_ucRefs (by decide)),
      (h.1 c (Proc.devRef .tc main_arg0) (Pipeline.devRef_mem_ucRefs (by decide))).trans (keeps_arg0 m c),
      (h.1 c (Proc.devRef .tc main_arg1) (Pipeline.devRef_mem_ucRefs (by decide))).trans (keeps_arg1 m c),
      (h.1 c (Proc.devRef .tc main_arg2) (Pipeline.devRef_mem_ucRefs (by decide))).trans (keeps_arg2 m c),
      (h.1 c (Proc.devRef .tc main_arg3) (Pipeline.devRef_mem_ucRefs (by decide))).trans (keeps_arg3 m c),
      (h.1 c (Proc.devRef .tc main_arg4) (Pipeline.devRef_mem_ucRefs (by decide))).trans (keeps_arg4 m c),
      (h.1 c (Proc.devRef .tc main_arg5) (Pipeline.devRef_mem_ucRefs (by decide))).trans (keeps_arg5 m c)⟩, h.2⟩) (run_main m ρ)

end Cert.Proof.Nsa
-- ==== Proof.NsaWords.Products.lean ====
/- The program as printed, before its constants are named. The two projection calls' bodies: one matrix product each. -/
module

public import proofs.«01_k».proof.Proof.NsaWords.TileRun
public import Idealize.ShloMosaic.Lib.Tactic
public import Idealize.ShloMosaic.Lib.VecWindow
public import Idealize.ShloMosaic.Lib.WritesUnit
public import Idealize.ShloMosaic.Lib.Pointwise

@[expose] public section

noncomputable section

namespace Cert.Proof.NsaWords

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ)

theorem proj_run (i : grid0.Coords) (M2 : Memref sig .tc .vmem S512x2048 .bf16) (h2 : M2.IsWhole) (M3 : Memref sig .tc .vmem S2048x640 .bf16) (h3 : M3.IsWhole)
    (M4 : Memref sig .tc .vmem S512x640 .f32) (h4 : M4.IsWhole) (f2 : Bf F c M2) (f3 : Bf F c M3) (f4 : Bf F c M4) (Q : PUnit → sProp 𝕄) :
    iprop(pt c M2 f2 ∗ pt c M3 f3 ∗ pt c M4 f4 ∗
      (∀ W, ⌜M4.view.read (Elt F) W = k0_pay1 (M2.view.read (Elt F) f2) (M3.view.read (Elt F) f3)⌝ -∗ pt c M2 f2 -∗ pt c M3 f3 -∗ pt c M4 W -∗ Q ⟨⟩))
      ⊢ wp frame (wpE (defs₀ (F := F)) Variants.none c none) E (cc0__proj_kernel i M2 h2 M3 h3 M4 h4) Q := by
  iintro ⟨H2, H3, H4, HQ⟩
  sl_exec!
  sl_step
  iapply HQ $$ %_ [] [H2] [H3] [H4]
  pick_goal 4; · iexact H4
  · ipureintro
    refine (View.read_writes_full _ _ _ _ _).trans ?_
    exact congrArg₂ k0_pay1 (View.readAt_full ..) (View.readAt_full ..)
  · iexact H2
  · iexact H3

theorem out_run (i : grid3.Coords) (M2 : Memref sig .tc .vmem S512x2048 .bf16) (h2 : M2.IsWhole) (M3 : Memref sig .tc .vmem S2048x512 .bf16) (h3 : M3.IsWhole)
    (M4 : Memref sig .tc .vmem S512x512 .f32) (h4 : M4.IsWhole) (f2 : Bf F c M2) (f3 : Bf F c M3) (f4 : Bf F c M4) (Q : PUnit → sProp 𝕄) :
    iprop(pt c M2 f2 ∗ pt c M3 f3 ∗ pt c M4 f4 ∗
      (∀ W, ⌜M4.view.read (Elt F) W = k3_pay1 (M2.view.read (Elt F) f2) (M3.view.read (Elt F) f3)⌝ -∗ pt c M2 f2 -∗ pt c M3 f3 -∗ pt c M4 W -∗ Q ⟨⟩))
      ⊢ wp frame (wpE (defs₀ (F := F)) Variants.none c none) E (cc3__out_kernel i M2 h2 M3 h3 M4 h4) Q := by
  iintro ⟨H2, H3, H4, HQ⟩
  sl_exec!
  sl_step
  iapply HQ $$ %_ [] [H2] [H3] [H4]
  pick_goal 4; · iexact H4
  · ipureintro
    refine (View.read_writes_full _ _ _ _ _).trans ?_
    exact congrArg₂ k3_pay1 (View.readAt_full ..) (View.readAt_full ..)
  · iexact H2
  · iexact H3

end Cert.Proof.NsaWords
-- ==== Proof.Nsa.Frames.lean ====
/- The frame claims: every program ends with its arguments as they were and every counter at zero. -/
module

public import proofs.«01_k».proof.Defs
public import proofs.«01_k».proof.Proof.Nsa.End
public import proofs.«01_k».proof.Proof.NsaWords.End
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof.Nsa

open Idealize.ShloMosaic Idealize.ShloMosaic.TcCoe Idealize.SL.Sem

theorem frame_ideal : Cert.quiescent_KernelIdeal := fun m ρ _ =>
  (θ_run Cert.KernelIdeal.defs _ _).mono (fun r h => ⟨fun c => (h.1 c).2, h.2⟩) (run_whole (F := Ideal) m ρ)

theorem frame_kernel : Cert.quiescent_Kernel := fun m ρ _ =>
  (θ_run Cert.Kernel.defs _ _).mono (fun r h => ⟨fun c => (h.1 c).2, h.2⟩) (Cert.Proof.NsaWords.run_whole (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ rfl,
    IdealRules.named_const.statement Cert.KernelIdeal.κ "masklim" .f32 0xEFA18F08#32 ⊥ rfl⟩

end Cert.Proof.Nsa
-- ==== Proof.Nsa.Soft.lean ====
/- The softmax taken tile by tile: a row's running maximum, weight sum and weighted sum after any number of tiles are those
   of all the keys so far, weighed against the maximum so far. -/
module

public import Idealize.ShloMosaic.PureOps.Ideal

@[expose] public section

noncomputable section

namespace Cert.Proof.Soft

open Idealize.ShloMosaic

/-- The exponential never gives minus infinity. -/
theorem exp_nonneg (x : EReal) : 0 ≤ Ideal.exp x := by
  induction x with
  | bot => exact le_refl _
  | top => exact le_top
  | coe r => exact EReal.coe_nonneg.mpr (Real.exp_pos r).le

/-- The exponential of a difference with the greater term taken away is finite. -/
theorem exp_sub_ne_top {x m : EReal} (h : x ≤ m) : Ideal.exp (x - m) ≠ ⊤ := by
  induction m with
  | bot => rw [le_bot_iff.mp h]; exact EReal.zero_ne_top
  | top => rw [EReal.sub_top]; exact EReal.zero_ne_top
  | coe m =>
    induction x with
    | bot => exact EReal.zero_ne_top
    | top => exact absurd h (by simp)
    | coe x => exact EReal.coe_ne_top _

theorem exp_bot : Ideal.exp ⊥ = 0 := rfl

/-- Shrinking a weight from one maximum to a greater. -/
theorem exp_mul_exp {x m n : EReal} (h : x ≤ m) (hn : m ≤ n) : Ideal.exp (x - m) * Ideal.exp (m - n) = Ideal.exp (x - n) := by
  induction n with
  | bot =>
    rw [le_bot_iff.mp hn] at h ⊢
    rw [le_bot_iff.mp h, EReal.bot_sub, exp_bot, zero_mul]
  | top => rw [EReal.sub_top, EReal.sub_top, exp_bot, mul_zero]
  | coe n =>
    induction m with
    | bot => rw [le_bot_iff.mp h, EReal.bot_sub, EReal.bot_sub, exp_bot, zero_mul]
    | top => exact absurd hn (by simp)
    | coe m =>
      induction x with
      | bot => rw [EReal.bot_sub, EReal.bot_sub, exp_bot, zero_mul]
      | top => exact absurd h (by simp)
      | coe x =>
        show (Real.exp (x - m) : EReal) * (Real.exp (m - n) : EReal) = (Real.exp (x - n) : EReal)
        rw [← EReal.coe_mul, ← Real.exp_add]; congr 2; ring

/-- A finite factor that is not negative goes into a sum. -/
theorem sum_mul_fin {ι : Type} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A key's score where it is seen, minus infinity where it is not. -/
def seen (b : Prop) [Decidable b] (s : EReal) : EReal := if b then s else ⊥

/-- A key's weight against a maximum. -/
def wt (b : Prop) [Decidable b] (s m : EReal) : EReal := Ideal.exp (seen b s - m) * (if b then 1 else 0)

variable {b : Prop} [Decidable b] {s m n : EReal}

theorem wt_false (h : ¬ b) : wt b s m = 0 := by unfold wt; rw [if_neg h, mul_zero]

theorem wt_nonneg : 0 ≤ wt b s m := by
  unfold wt; split
  · rw [mul_one]; exact exp_nonneg _
  · rw [mul_zero]

theorem wt_ne_top (h : seen b s ≤ m) : wt b s m ≠ ⊤ := by
  unfold wt; split
  · rw [mul_one]; exact exp_sub_ne_top h
  · rw [mul_zero]; exact EReal.zero_ne_top

theorem wt_shrink (h : seen b s ≤ m) (hn : m ≤ n) : wt b s m * Ideal.exp (m - n) = wt b s n := by
  unfold wt; split
  · rw [mul_one, mul_one, exp_mul_exp h hn]
  · rw [mul_zero, mul_zero, zero_mul]

/-- The maximum a softmax takes away: none where no key is seen. -/
def away (m : EReal) : EReal := if ⊥ < m then m else 0

/-- Taking nothing away where no key is seen gives the same weights. -/
theorem wt_away (h : seen b s ≤ m) : wt b s (away m) = wt b s m := by
  unfold away; split
  · rfl
  · next hm =>
    have : m = ⊥ := not_bot_lt_iff.mp hm
    subst this
    unfold wt; rw [le_bot_iff.mp h, EReal.bot_sub, EReal.bot_sub]

/-- A row's maximum over the first `n` keys. -/
def top (b : ℕ → Prop) [DecidablePred b] (s : ℕ → EReal) (n : ℕ) : EReal := (Finset.range n).sup fun i => seen (b i) (s i)

variable (p : ℕ → Prop) [DecidablePred p] (sc : ℕ → EReal)

theorem seen_le_top {n i : ℕ} (h : i < n) : seen (p i) (sc i) ≤ top p sc n :=
  Finset.le_sup (f := fun i => seen (p i) (sc i)) (Finset.mem_range.mpr h)

theorem top_add (n k : ℕ) : top p sc (n + k) = max (top p sc n) (Finset.univ.sup fun j : Fin k => seen (p (n + j)) (sc (n + j))) := by
  apply le_antisymm
  · refine Finset.sup_le fun i hi => ?_
    rw [Finset.mem_range] at hi
    by_cases h : i < n
    · exact le_max_of_le_left (seen_le_top p sc h)
    · refine le_max_of_le_right ?_
      have := Finset.le_sup (f := fun j : Fin k => seen (p (n + j)) (sc (n + j))) (Finset.mem_univ (⟨i - n, by omega⟩ : Fin k))
      have e : n + (i - n) = i := by omega
      simpa only [e] using this
  · refine max_le (Finset.sup_mono (Finset.range_mono (by omega))) (Finset.sup_le fun j _ => ?_)
    exact seen_le_top p sc (by omega)

/-- A weighted sum over the first `n` keys, each weighed against the maximum over them. -/
def acc (v : ℕ → EReal) (n : ℕ) : EReal := ∑ i ∈ Finset.range n, wt (p i) (sc i) (top p sc n) * v i

/-- One more tile: what was summed shrinks to the new maximum and the tile's keys are added. -/
theorem acc_add (v : ℕ → EReal) (n k : ℕ) :
    acc p sc v (n + k) = acc p sc v n * Ideal.exp (top p sc n - top p sc (n + k))
      + ∑ j : Fin k, wt (p (n + j)) (sc (n + j)) (top p sc (n + k)) * v (n + j) := by
  have hle : top p sc n ≤ top p sc (n + k) := Finset.sup_mono (Finset.range_mono (by omega))
  unfold acc
  rw [Finset.sum_range_add, Finset.sum_range (fun x => wt (p (n + x)) (sc (n + x)) (top p sc (n + k)) * v (n + x)),
    sum_mul_fin _ _ (exp_nonneg _) (exp_sub_ne_top hle)]
  congr 1
  refine Finset.sum_congr rfl fun i hi => ?_
  rw [mul_right_comm, wt_shrink (seen_le_top p sc (Finset.mem_range.mp hi)) hle]

/-- A tile none of whose keys is seen leaves the maximum. -/
theorem top_idle (n k : ℕ) (h : ∀ j : Fin k, ¬ p (n + j)) : top p sc (n + k) = top p sc n := by
  rw [top_add]
  refine max_eq_left (Finset.sup_le fun j _ => ?_)
  unfold seen; rw [if_neg (h j)]; exact bot_le

/-- A tile none of whose keys is seen leaves the sums. -/
theorem acc_idle (v : ℕ → EReal) (n k : ℕ) (h : ∀ j : Fin k, ¬ p (n + j)) : acc p sc v (n + k) = acc p sc v n := by
  unfold acc
  rw [top_idle p sc n k h, Finset.sum_range_add, Finset.sum_range (fun x => wt (p (n + x)) (sc (n + x)) _ * v (n + x)), Finset.sum_eq_zero (s := Finset.univ), add_zero]
  intro j _
  rw [wt_false (h j), zero_mul]

/-- Nothing seen yet. -/
theorem top_zero : top p sc 0 = ⊥ := rfl
theorem acc_zero (v : ℕ → EReal) : acc p sc v 0 = 0 := rfl

/-- The inverse of a positive number. -/
theorem inv_fin {y : EReal} (h : 0 < y) : 0 ≤ y⁻¹ ∧ y⁻¹ ≠ ⊤ := by
  refine ⟨EReal.inv_nonneg_of_nonneg h.le, ?_⟩
  induction y with
  | bot => exact absurd h (by simp)
  | top => rw [EReal.inv_top]; exact EReal.zero_ne_top
  | coe r => rw [← EReal.coe_inv]; exact EReal.coe_ne_top _

theorem div_pos {x y : EReal} (h : 0 < y) : Ideal.div x y = x * y⁻¹ := by
  unfold Ideal.div; rw [if_neg h.ne']

/-- Weights divided before they weigh give the sum divided after. -/
theorem div_sum {ι : Type} (t : Finset ι) (w v : ι → EReal) {y : EReal} (h : 0 < y) :
    ∑ i ∈ t, Ideal.div (w i) y * v i = Ideal.div (∑ i ∈ t, w i * v i) y := by
  rw [div_pos h, sum_mul_fin _ _ (inv_fin h).1 (inv_fin h).2]
  refine Finset.sum_congr rfl fun i _ => ?_
  rw [div_pos h, mul_right_comm]

end Cert.Proof.Soft

end
-- ==== Proof.Nsa.Rank.lean ====
/- Ranking by counting who comes before: a stable sort by "greater" puts first the positions that few others beat. -/
module

public import Idealize.ShloMosaic.Lib.SortFacts
public import Idealize.ShloMosaic.Lib.SortPrefix
public import Idealize.ShloMosaic.PureOps.Ideal

@[expose] public section

noncomputable section

namespace Cert.Proof.Rank

open Idealize.ShloMosaic

variable {n : ℕ}

/-- Position `i` beats position `j`: it is greater, or equal and earlier. -/
def ahead (f : Fin n → EReal) (i j : Fin n) : Bool := decide (f j < f i) || (decide (f i = f j) && decide (i < j))

theorem ahead_total (f : Fin n → EReal) : StrictTotalBefore (ahead f) := by
  classical
  have h := StrictTotalBefore.of_key_then_position (fun a b : EReal => decide (b < a)) f (by simp)
    (fun a b c h1 h2 => by simp only [decide_eq_true_eq] at *; exact lt_trans h2 h1)
    (fun a b => by simp only [decide_eq_true_eq]; rcases lt_trichotomy a b with h | h | h <;> simp [h])
  have e : ahead f = fun k k' : Fin n => (fun a b : EReal => decide (b < a)) (f k) (f k') || (decide (f k = f k') && decide (k < k')) := by
    funext k k'; unfold ahead; congr
  rw [e]; convert h

/-- Inserting before later positions asks only for the greater. -/
theorem insert_eq (f : Fin n → EReal) (a : Fin n) (l : List (Fin n)) (h : ∀ b ∈ l, a < b) :
    insertBefore (fun i j => decide (f j < f i)) a l = insertBefore (ahead f) a l := by
  refine insertBefore_congr _ _ a l fun b hb => ?_
  unfold ahead
  have : ¬ b < a := not_lt.mpr (h b hb).le
  simp [this]

/-- Sorting positions that come in order asks only for the greater. -/
theorem sort_eq (f : Fin n → EReal) (l : List (Fin n)) (h : l.Pairwise (· < ·)) :
    stableSort (fun i j => decide (f j < f i)) l = stableSort (ahead f) l := by
  induction l with
  | nil => rfl
  | cons a l ih =>
    rw [List.pairwise_cons] at h
    show insertBefore _ a (stableSort _ l) = insertBefore _ a (stableSort _ l)
    rw [ih h.2]
    exact insert_eq f a _ fun b hb => h.1 b ((perm_stableSort _ l).mem_iff.mp hb)

theorem sortedFrom_ahead (f : Fin n → EReal) (k : Fin n) : sortedFrom (fun i j => decide (f j < f i)) k = sortedFrom (ahead f) k := by
  have h : sortPositions n (fun i j => decide (f j < f i)) = sortPositions n (ahead f) :=
    sort_eq f _ (List.pairwise_lt_finRange n)
  unfold sortedFrom
  simp only [List.get_eq_getElem, h]
  rfl

/-- Earlier in the sort is ahead. -/
theorem ahead_sorted (f : Fin n → EReal) (i j : Fin n) : ahead f (sortedFrom (ahead f) i) (sortedFrom (ahead f) j) = true ↔ i < j := by
  have hB := ahead_total f
  have hno := fun i j => sortedFrom_noInversion (ahead f) (ahead f) (fun a b h => hB.asymm a b h) (fun _ _ h => h) hB.negTrans i j
  constructor
  · intro h
    by_contra hij
    rcases (not_lt.mp hij).lt_or_eq with h' | h'
    · rw [hno j i h'] at h; exact absurd h (by decide)
    · subst h'; rw [hB.irrefl] at h; exact absurd h (by decide)
  · intro h
    rcases hB.total _ _ (fun e => h.ne (sortedFrom_injective (ahead f) e)) with h' | h'
    · exact h'
    · rw [hno i j h] at h'; exact absurd h' (by decide)

/-- How many beat the position the sort puts at `i`: those it puts before. -/
theorem card_ahead (f : Fin n → EReal) (i : Fin n) : (Finset.univ.filter fun x => ahead f x (sortedFrom (ahead f) i) = true).card = i.val := by
  classical
  have : (Finset.univ.filter fun x => ahead f x (sortedFrom (ahead f) i) = true) = (Finset.Iio i).image (sortedFrom (ahead f)) := by
    ext x
    obtain ⟨j, rfl⟩ := sortedFrom_surjective (ahead f) x
    simp only [Finset.mem_filter, Finset.mem_univ, true_and, Finset.mem_image, Finset.mem_Iio, ahead_sorted]
    exact ⟨fun h => ⟨j, h, rfl⟩, fun ⟨k, hk, e⟩ => sortedFrom_injective (ahead f) e ▸ hk⟩
  rw [this, Finset.card_image_of_injective _ (sortedFrom_injective _), Fin.card_Iio]

/-- A position is among the first `k` of the sort exactly when fewer than `k` beat it. -/
theorem mem_first (f : Fin n → EReal) (k : ℕ) (hk : k ≤ n) (x : Fin n) :
    (∃ i : Fin k, sortedFrom (fun i j => decide (f j < f i)) (i.castLE hk) = x) ↔ (Finset.univ.filter fun y => ahead f y x = true).card < k := by
  constructor
  · rintro ⟨i, rfl⟩
    rw [sortedFrom_ahead, card_ahead]; exact i.isLt
  · intro h
    obtain ⟨j, rfl⟩ := sortedFrom_surjective (ahead f) x
    rw [card_ahead] at h
    exact ⟨⟨j.val, h⟩, sortedFrom_ahead f _⟩

end Cert.Proof.Rank

end
-- ==== Proof.Nsa.Spec.lean ====
/- The layer over the extended reals, each quantity by its plain indices: what both programs are shown to compute. -/
module

public import proofs.«01_k».proof.Proof.Nsa.Soft
public import proofs.«01_k».proof.Proof.Nsa.Rank

@[expose] public section

noncomputable section

namespace Cert.Proof.Spec

open Idealize.ShloMosaic Cert.Proof.Soft Cert.Proof.Rank

/-- The factor of the scores, and the floor of a denominator. -/
def scale : EReal := Ideal.ofBits .f32 0x3DB504F3#32
def floor : EReal := Ideal.ofBits .f32 0x3089705F#32

/-- The key group of a head, and the heads of a group. -/
def grp (h : Fin 16) : Fin 4 := ⟨h.val / 4, by omega⟩
def headAt (g r : Fin 4) : Fin 16 := ⟨g.val * 4 + r.val, by omega⟩

/-- A projection's entry. -/
def proj {n : ℕ} (X : Fin 2048 → Fin 2048 → EReal) (W : Fin 2048 → Fin n → EReal) (s : Fin 2048) (j : Fin n) : EReal := ∑ k, X s k * W k j

variable (q : Fin 16 → Fin 2048 → Fin 128 → EReal) (k v : Fin 4 → Fin 2048 → Fin 128 → EReal) (gl : Fin 16 → Fin 2048 → Fin 3 → EReal)

/-- A key block's mean. -/
def mean (g : Fin 4) (n : Fin 32) (d : Fin 128) : EReal :=
  Ideal.div (∑ r : Fin 64, k g ⟨n.val * 64 + r.val, by omega⟩ d) (Ideal.ofBits .f32 0x42800000#32)

/-- The compression branch: a block is seen from its last key on. -/
def cs (h : Fin 16) (s : Fin 2048) (n : Fin 32) : EReal := (∑ d, q h s d * mean k (grp h) n d) * scale
abbrev cseen (s : Fin 2048) (n : Fin 32) : Prop := (n.val + 1) * 64 - 1 ≤ s.val
def cm (h : Fin 16) (s : Fin 2048) : EReal := Finset.univ.sup fun n => seen (cseen s n) (cs q k h s n)
def cw (h : Fin 16) (s : Fin 2048) (n : Fin 32) : EReal := wt (cseen s n) (cs q k h s n) (away (cm q k h s))
def cden (h : Fin 16) (s : Fin 2048) : EReal := ∑ n, cw q k h s n
def pn (h : Fin 16) (s : Fin 2048) (n : Fin 32) : EReal := Ideal.div (cw q k h s n) (max (cden q k h s) floor)
def oc (h : Fin 16) (s : Fin 2048) (d : Fin 128) : EReal := Ideal.div (∑ n, cw q k h s n * mean v (grp h) n d) (max (cden q k h s) floor)

/-- The importance of a block to a group, and the blocks picked. -/
def imp (g : Fin 4) (s : Fin 2048) (n : Fin 32) : EReal := Ideal.div (∑ r : Fin 4, pn q k (headAt g r) s n) (Ideal.ofBits .f32 0x40800000#32)
abbrev picked (g : Fin 4) (s : Fin 2048) (n : Fin 32) : Prop :=
  (Finset.univ.filter fun y => ahead (imp q k g s) y n = true).card < 16 ∨ s.val / 64 = n.val

/-- A softmax branch over all the keys. -/
def bmax (b : Fin 2048 → Prop) [DecidablePred b] (sc : Fin 2048 → EReal) : EReal := Finset.univ.sup fun t => seen (b t) (sc t)
def branch (b : Fin 2048 → Prop) [DecidablePred b] (sc w : Fin 2048 → EReal) : EReal :=
  Ideal.div (∑ t, wt (b t) (sc t) (away (bmax b sc)) * w t) (max (∑ t, wt (b t) (sc t) (away (bmax b sc))) floor)

def fs (h : Fin 16) (s t : Fin 2048) : EReal := (∑ d, q h s d * k (grp h) t d) * scale
abbrev selSeen (g : Fin 4) (s t : Fin 2048) : Prop := picked q k g s ⟨t.val / 64, by omega⟩ ∧ t.val ≤ s.val
abbrev winSeen (s t : Fin 2048) : Prop := t.val ≤ s.val ∧ s.val < t.val + 512

def gate (h : Fin 16) (s : Fin 2048) (i : Fin 3) : EReal := Ideal.div 1 (1 + Ideal.exp (-(gl h s i)))

/-- A head's output. -/
def o (h : Fin 16) (s : Fin 2048) (d : Fin 128) : EReal :=
  gate gl h s 0 * oc q k v h s d + gate gl h s 1 * branch (selSeen q k (grp h) s) (fs q k h s) (fun t => v (grp h) t d)
    + gate gl h s 2 * branch (winSeen s) (fs q k h s) (fun t => v (grp h) t d)

/-- The layer's output. -/
def out (Wo : Fin 2048 → Fin 2048 → EReal) (s c : Fin 2048) : EReal :=
  ∑ j : Fin 2048, o q k v gl ⟨j.val / 128, by omega⟩ s ⟨j.val % 128, by omega⟩ * Wo j c

/-- Branches of the same keys, scores and values are equal. -/
theorem branch_congr {b b' : Fin 2048 → Prop} [DecidablePred b] [DecidablePred b'] (h : ∀ t, b t ↔ b' t) (sc w : Fin 2048 → EReal) :
    branch b sc w = branch b' sc w := by
  obtain rfl : b = b' := funext fun t => propext (h t)
  congr

end Cert.Proof.Spec

end
-- ==== Proof.Nsa.Words.lean ====
/- The integer words of the masks, and the constants. -/
module

public import proofs.«01_k».proof.Proof.Nsa.Spec
public import Idealize.ShloMosaic.Lib.WordCmp
public import Idealize.ShloMosaic.Lib.IdealHost
public import Idealize.ShloMosaic.Lib.TotalOrder

@[expose] public section

noncomputable section

namespace Cert.Proof.Words

open Idealize.ShloMosaic Idealize.ShloMosaic.WordCmp Cert.Proof.Spec Cert.Proof.Soft

theorem ofBool_congr {p q : Prop} [Decidable p] [Decidable q] (h : p ↔ q) : BitVec.ofBool (decide p) = BitVec.ofBool (decide q) := by
  rw [decide_eq_decide.mpr h]

/-- The last key of a block. -/
theorem blockEnd (n : Fin 32) : IntOp.subi (IntOp.muli (IntOp.addi (BitVec.ofNat 32 n.val) 1#32) 64#32) 1#32 = BitVec.ofNat 32 ((n.val + 1) * 64 - 1) := by
  revert n; decide

theorem cseen_word (s : Fin 2048) (n : Fin 32) :
    IntOp.cmpi CmpIPredicate.sle (IntOp.subi (IntOp.muli (IntOp.addi (BitVec.ofNat 32 n.val) 1#32) 64#32) 1#32) (BitVec.ofNat 32 s.val)
      = BitVec.ofBool (decide (cseen s n)) := by
  rw [blockEnd, cmpi_sle_ofNat (by have := n.isLt; show _ < 2147483648; omega) (by have := s.isLt; show _ < 2147483648; omega)]

theorem sge_word {a b : ℕ} (ha : a < 2048) (hb : b < 2048) : IntOp.cmpi .sge (BitVec.ofNat 32 a) (BitVec.ofNat 32 b) = BitVec.ofBool (decide (b ≤ a)) := by
  rw [cmpi_sge_ofNat (by show _ < 2147483648; omega) (by show _ < 2147483648; omega)]

theorem sub_word {a b : ℕ} (h : b ≤ a) (ha : a < 2048) : IntOp.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega

theorem win_word {a b : ℕ} (ha : a < 2048) (hb : b < 2048) :
    IntOp.andi (BitVec.ofBool (decide (b ≤ a))) (IntOp.cmpi .slt (IntOp.subi (BitVec.ofNat 32 a) (BitVec.ofNat 32 b)) 512#32)
      = BitVec.ofBool (decide (b ≤ a ∧ a < b + 512)) := by
  by_cases h : b ≤ a
  · rw [sub_word h ha, cmpi_slt_ofNat (b := 512) (by show _ < 2147483648; omega) (by show _ < 2147483648; omega), andi_ofBool, ← Bool.decide_and]
    exact ofBool_congr (by omega)
  · rw [decide_eq_false h, decide_eq_false (fun h' => h h'.1)]
    generalize IntOp.cmpi _ _ _ = x
    revert x; decide

/-- An indicator as a number. -/
theorem uitofp_ofBool (b : Prop) [Decidable b] : (FloatOps.uitofp (F := Ideal) .f32 (BitVec.ofBool (decide b)) : EReal) = if b then 1 else 0 := by
  by_cases h : b
  · rw [if_pos h, decide_eq_true h]; show ((_ : ℝ) : EReal) = 1; simp
  · rw [if_neg h, decide_eq_false h]; show ((_ : ℝ) : EReal) = 0; simp

theorem sitofp_ofBool (b : Prop) [Decidable b] : (FloatOps.sitofp (F := Ideal) .f32 ((BitVec.ofBool (decide b)).setWidth 32) : EReal) = if b then 1 else 0 := by
  by_cases h : b
  · rw [if_pos h, decide_eq_true h]; show ((_ : ℝ) : EReal) = 1; simp
  · rw [if_neg h, decide_eq_false h]; show ((_ : ℝ) : EReal) = 0; simp

theorem add_word (a b : ℕ) : IntOp.addi (BitVec.ofNat 32 a) (BitVec.ofNat 32 b) = BitVec.ofNat 32 (a + b) := (BitVec.ofNat_add a b).symm

theorem mul_word (a b : ℕ) : IntOp.muli (BitVec.ofNat 32 a) (BitVec.ofNat 32 b) = BitVec.ofNat 32 (a * b) := (BitVec.ofNat_mul a b).symm

theorem slt_word {a b : ℕ} (ha : a < 4096) (hb : b < 4096) : IntOp.cmpi .slt (BitVec.ofNat 32 a) (BitVec.ofNat 32 b) = BitVec.ofBool (decide (a < b)) := by
  rw [cmpi_slt_ofNat (by show _ < 2147483648; omega) (by show _ < 2147483648; omega)]

theorem eq_word {a b : ℕ} (ha : a < 4096) (hb : b < 4096) : IntOp.cmpi .eq (BitVec.ofNat 32 a) (BitVec.ofNat 32 b) = BitVec.ofBool (decide (a = b)) := by
  rw [cmpi_eq_ofNat (by show _ < 4294967296; omega) (by show _ < 4294967296; omega)]

theorem select_dec {α : Type} (p : Prop) [Decidable p] (x y : α) : Scalar.select (BitVec.ofBool (decide p)) x y = if p then x else y := by
  by_cases h : p
  · rw [if_pos h, decide_eq_true h]; rfl
  · rw [if_neg h, decide_eq_false h]; rfl

/-- An indicator is positive where it holds. -/
theorem pos_ind (p : Prop) [Decidable p] : (0 < if p then (1 : EReal) else 0) ↔ p := by
  by_cases h : p
  · rw [if_pos h]; exact ⟨fun _ => h, fun _ => zero_lt_one⟩
  · rw [if_neg h]; exact ⟨fun h' => absurd h' (lt_irrefl _), fun h' => absurd h' h⟩

/-- A sum of indicators is positive where one of them holds. -/
theorem pos_sum {ι : Type} [Fintype ι] (p : ι → Prop) [DecidablePred p] : (0 < ∑ x, if p x then (1 : EReal) else 0) ↔ ∃ x, p x := by
  have h0 : ∀ x ∈ Finset.univ, 0 ≤ if p x then (1 : EReal) else 0 := fun x _ => by split; exacts [zero_le_one, le_refl _]
  constructor
  · intro h
    by_contra hn
    rw [Finset.sum_eq_zero fun x _ => if_neg fun hx => hn ⟨x, hx⟩] at h
    exact lt_irrefl _ h
  · rintro ⟨x, hx⟩
    refine lt_of_lt_of_le zero_lt_one (le_trans ?_ (Finset.single_le_sum h0 (Finset.mem_univ x)))
    rw [if_pos hx]

theorem ofBits_bot : Ideal.ofBits .f32 0xFF800000#32 = ⊥ := by
  simp [Ideal.ofBits, Ideal.ieee]

theorem ofBits_nil : Ideal.ofBits .f32 0x00000000#32 = 0 := by
  simp [Ideal.ofBits, Ideal.ieee]

theorem floor_pos : 0 < Spec.floor := by
  unfold Spec.floor
  simp only [Ideal.ofBits, Ideal.ieee]
  rw [if_neg (by decide), if_neg (by decide), EReal.coe_pos]
  rw [if_neg (by decide)]
  positivity

theorem max_floor_pos (x : EReal) : 0 < max x Spec.floor := lt_max_of_lt_right floor_pos

/-- A quarter by multiplying is a quarter by dividing. -/
theorem quarter (x : EReal) : x * Ideal.ofBits .f32 0x3E800000#32 = Ideal.div x (Ideal.ofBits .f32 0x40800000#32) := by
  have h4 : Ideal.ofBits .f32 0x40800000#32 = ((4 : ℝ) : EReal) := by
    simp [Ideal.ofBits, Ideal.ieee, -EReal.coe_mul]; norm_num
  have h1 : Ideal.ofBits .f32 0x3E800000#32 = ((4⁻¹ : ℝ) : EReal) := by
    simp [Ideal.ofBits, Ideal.ieee, -EReal.coe_mul]; norm_num
  rw [h4, h1, div_pos (by rw [EReal.coe_pos]; norm_num), EReal.coe_inv]

theorem quarter_fin : 0 ≤ Ideal.ofBits .f32 0x3E800000#32 ∧ Ideal.ofBits .f32 0x3E800000#32 ≠ ⊤ := by
  have h1 : Ideal.ofBits .f32 0x3E800000#32 = ((4⁻¹ : ℝ) : EReal) := by
    simp [Ideal.ofBits, Ideal.ieee, -EReal.coe_mul]; norm_num
  rw [h1]
  exact ⟨by rw [EReal.coe_nonneg]; norm_num, EReal.coe_ne_top _⟩

end Cert.Proof.Words

end
-- ==== Proof.Nsa.Host.lean ====
/- The operations between the calls, over the extended reals: what each array they make holds at an index. -/
module

public import proofs.«01_k».proof.Proof.Nsa.Words
public import proofs.«01_k».proof.Proof.Nsa.Launch
public import Idealize.ShloMosaic.Lib.Pointwise

@[expose] public section

set_option maxRecDepth 16384

noncomputable section

namespace Cert.Proof.Nsa

open Cert.KernelIdeal Cert.KernelIdeal.Gen
open Idealize.ShloMosaic Idealize.ShloMosaic.Tactic

variable (V : Valuation τ sig (Elt Ideal))

/-! ## The joined weights -/

section
variable (a : FVec Ideal S2048x2048 .f32) (b d : FVec Ideal S2048x512 .f32) (e : FVec Ideal S2048x48 .f32) (z : FVec Ideal S2048x80 .f32)
  (h : Shape.Concatenates (([⟨S2048x2048, a⟩, ⟨S2048x512, b⟩, ⟨S2048x512, d⟩, ⟨S2048x48, e⟩, ⟨S2048x80, z⟩] : List ((s : Shape) × (s.Idx → EReal))).map (·.1)) S2048x3200 1)

theorem cat0 (k j : Fin 2048) : concatenate S2048x3200 1 [⟨S2048x2048, a⟩, ⟨S2048x512, b⟩, ⟨S2048x512, d⟩, ⟨S2048x48, e⟩, ⟨S2048x80, z⟩] h
    (ix2 k (⟨j.val, by omega⟩ : Fin 3200)) = a (ix2 k j) :=
  concatenate_apply_piece 1 _ h _ 0 (by show 0 < 5; decide) S2048x2048 a rfl rfl 0 rfl (ix2 k j) (fun b hb => by fin_cases b; (· rfl); (· exact absurd rfl hb)) (Nat.zero_add _)

theorem cat1 (k : Fin 2048) (j : Fin 512) : concatenate S2048x3200 1 [⟨S2048x2048, a⟩, ⟨S2048x512, b⟩, ⟨S2048x512, d⟩, ⟨S2048x48, e⟩, ⟨S2048x80, z⟩] h
    (ix2 k (⟨2048 + j.val, by omega⟩ : Fin 3200)) = b (ix2 k j) :=
  concatenate_apply_piece 1 _ h _ 1 (by show 1 < 5; decide) S2048x512 b rfl rfl 2048 rfl (ix2 k j) (fun b hb => by fin_cases b; (· rfl); (· exact absurd rfl hb)) rfl

theorem cat2 (k : Fin 2048) (j : Fin 512) : concatenate S2048x3200 1 [⟨S2048x2048, a⟩, ⟨S2048x512, b⟩, ⟨S2048x512, d⟩, ⟨S2048x48, e⟩, ⟨S2048x80, z⟩] h
    (ix2 k (⟨2560 + j.val, by omega⟩ : Fin 3200)) = d (ix2 k j) :=
  concatenate_apply_piece 1 _ h _ 2 (by show 2 < 5; decide) S2048x512 d rfl rfl 2560 rfl (ix2 k j) (fun b hb => by fin_cases b; (· rfl); (· exact absurd rfl hb)) rfl

theorem cat3 (k : Fin 2048) (j : Fin 48) : concatenate S2048x3200 1 [⟨S2048x2048, a⟩, ⟨S2048x512, b⟩, ⟨S2048x512, d⟩, ⟨S2048x48, e⟩, ⟨S2048x80, z⟩] h
    (ix2 k (⟨3072 + j.val, by omega⟩ : Fin 3200)) = e (ix2 k j) :=
  concatenate_apply_piece 1 _ h _ 3 (by show 3 < 5; decide) S2048x48 e rfl rfl 3072 rfl (ix2 k j) (fun b hb => by fin_cases b; (· rfl); (· exact absurd rfl hb)) rfl
end

/-! ## Each stretch's arrays -/

theorem v3_eq : StableHlo.after (hostOps0 (F := Ideal)) V (Proc.devRef .tc main_v3)
    = truncf (F := Ideal) .bf16 (shapeCast S2048x2048 (V (Proc.devRef .tc main_arg0) : FVec Ideal S1x2048x2048 .f32) shapeCasts_S1x2048x2048_S2048x2048) bitsLt_bf16_f32 := by
  simp only [hostOps0]
  after_results_simp
  rfl

theorem v11_eq : StableHlo.after (hostOps1 (F := Ideal)) V (Proc.devRef .tc main_v11)
    = transpose S16x2048x3 [1, 0, 2] (shapeCast S2048x16x3 (extractStridedSlice S2048x48 ![0, 3072] (V (Proc.devRef .tc main_v5) : FVec Ideal S2048x3200 .f32) slices_S2048x3200_S2048x48_0_3072) shapeCasts_S2048x48_S2048x16x3) transposes_S2048x16x3_S16x2048x3_1_0_2 := by
  simp only [hostOps1]
  after_results_simp
  rfl

/-- The joined weights. -/
def joined (a : FVec Ideal S2048x2048 .f32) (b d : FVec Ideal S2048x512 .f32) (e : FVec Ideal S2048x48 .f32) (z : FVec Ideal S2048x80 .f32) : FVec Ideal S2048x3200 .f32 :=
  concatenate S2048x3200 1 [⟨S2048x2048, a⟩, ⟨S2048x512, b⟩, ⟨S2048x512, d⟩, ⟨S2048x48, e⟩, ⟨S2048x80, z⟩]
    concatenates_S2048x2048_S2048x512_S2048x512_S2048x48_S2048x80_S2048x3200_d1

theorem v4_eq : StableHlo.after (hostOps0 (F := Ideal)) V (Proc.devRef .tc main_v4)
    = truncf (F := Ideal) .bf16 (joined (V (Proc.devRef .tc main_arg1)) (V (Proc.devRef .tc main_arg2)) (V (Proc.devRef .tc main_arg3)) (V (Proc.devRef .tc main_arg4))
        (broadcastInDim S2048x80 ![] bcast_S_S2048x80 (constant (F := Ideal) S_ .f32 0x00000000#32))) bitsLt_bf16_f32 := by
  simp only [hostOps0]
  after_results_simp
  rfl

theorem v12_eq : StableHlo.after (hostOps1 (F := Ideal)) V (Proc.devRef .tc main_v12)
    = truncf (F := Ideal) .bf16 (extractStridedSlice S2048x2048 ![0, 0] (V (Proc.devRef .tc main_v5) : FVec Ideal S2048x3200 .f32) slices_S2048x3200_S2048x2048_0_0) bitsLt_bf16_f32 := by
  simp only [hostOps1]
  after_results_simp

theorem v7_eq : StableHlo.after (hostOps1 (F := Ideal)) V (Proc.devRef .tc main_v7)
    = extractStridedSlice S2048x512 ![0, 2048] (V (Proc.devRef .tc main_v5) : FVec Ideal S2048x3200 .f32) slices_S2048x3200_S2048x512_0_2048 := by
  simp only [hostOps1]
  after_results_simp

theorem v8_eq : StableHlo.after (hostOps1 (F := Ideal)) V (Proc.devRef .tc main_v8)
    = extractStridedSlice S2048x512 ![0, 2560] (V (Proc.devRef .tc main_v5) : FVec Ideal S2048x3200 .f32) slices_S2048x3200_S2048x512_0_2560 := by
  simp only [hostOps1]
  after_results_simp

theorem v14_eq : StableHlo.after (hostOps2 (F := Ideal)) V (Proc.devRef .tc main_v14)
    = truncf (F := Ideal) .bf16 (V (Proc.devRef .tc main_v7) : FVec Ideal S2048x512 .f32) bitsLt_bf16_f32 := by
  simp only [hostOps2]
  after_results_simp

theorem v15_eq : StableHlo.after (hostOps2 (F := Ideal)) V (Proc.devRef .tc main_v15)
    = truncf (F := Ideal) .bf16 (V (Proc.devRef .tc main_v8) : FVec Ideal S2048x512 .f32) bitsLt_bf16_f32 := by
  simp only [hostOps2]
  after_results_simp

theorem v17_eq : StableHlo.after (hostOps3 (F := Ideal)) V (Proc.devRef .tc main_v17)
    = truncf (F := Ideal) .bf16 (V (Proc.devRef .tc main_arg5) : FVec Ideal S2048x2048 .f32) bitsLt_bf16_f32 := by
  simp only [hostOps3]
  after_results_simp

theorem v19_eq : StableHlo.after (hostOps4 (F := Ideal)) V (Proc.devRef .tc main_v19)
    = broadcastInDim S1x2048x2048 ![1, 2] bcast_S2048x2048_S1x2048x2048_1_2 (V (Proc.devRef .tc main_v18) : FVec Ideal S2048x2048 .f32) := by
  simp only [hostOps4]
  after_results_simp

/-! ## At an index -/

section
variable (x : FVec Ideal S1x2048x2048 .f32) (y : FVec Ideal S2048x3200 .f32) (s : Fin 2048)

theorem flat_at (k : Fin 2048) : truncf (F := Ideal) .bf16 (shapeCast S2048x2048 x shapeCasts_S1x2048x2048_S2048x2048) bitsLt_bf16_f32 (ix2 s k) = x (ix3 0 s k) := by
  pointwise []

theorem cols_q (j : Fin 2048) : truncf (F := Ideal) .bf16 (extractStridedSlice S2048x2048 ![0, 0] y slices_S2048x3200_S2048x2048_0_0) bitsLt_bf16_f32 (ix2 s j)
    = y (ix2 s ⟨j.val, by omega⟩) := by
  refine congrArg y (funext fun e => Fin.ext ?_)
  match e with
  | ⟨0, _⟩ => show 0 + s.val = s.val; omega
  | ⟨1, _⟩ => show 0 + j.val = j.val; omega

theorem cols_k (j : Fin 512) : extractStridedSlice S2048x512 ![0, 2048] y slices_S2048x3200_S2048x512_0_2048 (ix2 s j) = y (ix2 s ⟨2048 + j.val, by omega⟩) := by
  refine congrArg y (funext fun e => Fin.ext ?_)
  match e with
  | ⟨0, _⟩ => show 0 + s.val = s.val; omega
  | ⟨1, _⟩ => rfl

theorem cols_v (j : Fin 512) : extractStridedSlice S2048x512 ![0, 2560] y slices_S2048x3200_S2048x512_0_2560 (ix2 s j) = y (ix2 s ⟨2560 + j.val, by omega⟩) := by
  refine congrArg y (funext fun e => Fin.ext ?_)
  match e with
  | ⟨0, _⟩ => show 0 + s.val = s.val; omega
  | ⟨1, _⟩ => rfl

theorem cols_g (h : Fin 16) (i : Fin 3) :
    transpose S16x2048x3 [1, 0, 2] (shapeCast S2048x16x3 (extractStridedSlice S2048x48 ![0, 3072] y slices_S2048x3200_S2048x48_0_3072) shapeCasts_S2048x48_S2048x16x3) transposes_S2048x16x3_S16x2048x3_1_0_2 (ix3 h s i)
      = y (ix2 s ⟨3072 + (h.val * 3 + i.val), by omega⟩) := by
  pointwise []

theorem batch_at (w : FVec Ideal S2048x2048 .f32) (j : Fin 2048) : broadcastInDim S1x2048x2048 ![1, 2] bcast_S2048x2048_S1x2048x2048_1_2 w (ix3 0 s j) = w (ix2 s j) := by
  pointwise []
end

end Cert.Proof.Nsa

end
-- ==== Proof.Nsa.CmpVal.lean ====
/- The compression call's values over the extended reals. -/
module

public import proofs.«01_k».proof.Proof.Nsa.Cmp
public import proofs.«01_k».proof.Proof.Nsa.Words
public import Idealize.ShloMosaic.Lib.Pointwise
public import Idealize.ShloMosaic.Lib.IndicatorCount

@[expose] public section

set_option maxRecDepth 16384

noncomputable section

namespace Cert.Proof.Nsa

open Cert.KernelIdeal Cert.KernelIdeal.Gen
open Idealize.ShloMosaic Idealize.ShloMosaic.WordCmp Cert.Proof.Soft Cert.Proof.Spec Cert.Proof.Words Cert.Proof.Rank

theorem mean_k_at (k : FVec Ideal S2048x128 .f32) (n : Fin 32) (d : Fin 128) :
    k1_pay2 (F := Ideal) k (ix2 n d) = Ideal.div (∑ r : Fin 64, k (ix2 ⟨n.val * 64 + r.val, by omega⟩ d)) (Ideal.ofBits .f32 0x42800000#32) := by
  pointwise [k1_pay2]

theorem mean_v_at (k : FVec Ideal S2048x128 .f32) (n : Fin 32) (d : Fin 128) :
    k1_pay3 (F := Ideal) k (ix2 n d) = Ideal.div (∑ r : Fin 64, k (ix2 ⟨n.val * 64 + r.val, by omega⟩ d)) (Ideal.ofBits .f32 0x42800000#32) := by
  pointwise [k1_pay3]

theorem cmask_at (s : Fin 2048) (n : Fin 32) : k1_pay4 (F := Ideal) (ix2 s n) = if cseen s n then (1 : EReal) else 0 := by
  pointwise [k1_pay4]
  rw [show IntOp.cmpi .sle _ _ = _ from cseen_word s n]
  exact sitofp_ofBool _

theorem mask_bot : (Named.named (F := Ideal) κ "mask" (φ := .f32) 0xF149F2CA#32 : EReal) = ⊥ := rfl
theorem lim_bot : (Named.named (F := Ideal) κ "masklim" (φ := .f32) 0xEFA18F08#32 : EReal) = ⊥ := rfl

/-- The scores of a head's queries against the blocks' means. -/
def hsc (kc : FVec Ideal S32x128 .bf16) (q : FVec Ideal S2048x128 .bf16) (s : Fin 2048) (n : Fin 32) : EReal := (∑ d, q (ix2 s d) * kc (ix2 n d)) * scale

theorem headW_at (kc : FVec Ideal S32x128 .bf16) (q : FVec Ideal S2048x128 .bf16) (s : Fin 2048) (n : Fin 32) :
    headW (F := Ideal) kc q (ix2 s n)
      = Ideal.div (wt (cseen s n) (hsc kc q s n) (away (Finset.univ.sup fun n => seen (cseen s n) (hsc kc q s n))))
          (max (∑ n, wt (cseen s n) (hsc kc q s n) (away (Finset.univ.sup fun n => seen (cseen s n) (hsc kc q s n)))) Spec.floor) := by
  unfold wt away seen hsc scale Spec.floor
  pointwise [headW, k1_pay19, cmask_at]
  simp only [pos_ind, mask_bot, lim_bot, ofBits_bot]
  rfl

theorem headO_at (kc vc : FVec Ideal S32x128 .bf16) (q : FVec Ideal S2048x128 .bf16) (s : Fin 2048) (d : Fin 128) :
    headO (F := Ideal) kc vc q (ix2 s d) = ∑ n, headW (F := Ideal) kc q (ix2 s n) * vc (ix2 n d) := by
  unfold headW
  pointwise [headO, k1_pay20]

theorem headOf_at (q : FVec Ideal S2048x512 .bf16) (h : Fin 4) (s : Fin 2048) (d : Fin 128) : headOf (F := Ideal) q h (ix2 s d) = q (ix2 s ⟨128 * h.val + d.val, by omega⟩) := by
  unfold headOf headRect
  pointwise
  refine congrArg q (funext fun e => ?_)
  fin_cases e <;> (apply Fin.ext; simp [Rect.emb, Rect.unit, ix2])

theorem importance_at (kc : FVec Ideal S32x128 .bf16) (q : FVec Ideal S2048x512 .bf16) (s : Fin 2048) (n : Fin 32) :
    importance (F := Ideal) kc q (ix2 s n) = Ideal.div (∑ h : Fin 4, headW (F := Ideal) kc (headOf q h) (ix2 s n)) (Ideal.ofBits .f32 0x40800000#32) := by
  generalize hW : headW (F := Ideal) kc = W
  pointwise [importance, addShare, hW, k1_pay5]
  rw [← quarter, sum_mul_fin _ _ quarter_fin.1 quarter_fin.2, Fin.sum_univ_four]

theorem beats_at (imp : FVec Ideal S2048x32 .f32) (s : Fin 2048) (n y : Fin 32) :
    beats (F := Ideal) imp n (ix2 s y) = (BitVec.ofBool (ahead (fun n => imp (ix2 s n)) y n)).setWidth 32 := by
  unfold beats ahead
  by_cases hn : n.val = 0
  · rw [if_pos hn]
    pointwise
    rw [decide_eq_false (p := y < n) (by rw [Fin.lt_def]; omega), Bool.and_false, Bool.or_false]
  · rw [if_neg hn]
    pointwise [blkNo]
    rw [slt_word (by omega) (by omega), select_dec]
    by_cases h1 : imp (ix2 s n) < imp (ix2 s y)
    · have h2 : ¬ imp (ix2 s y) = imp (ix2 s n) := fun h => absurd h1 (by rw [h]; exact lt_irrefl _)
      rw [decide_eq_true h1, decide_eq_false h2]
      split <;> rfl
    · rw [decide_eq_false h1]
      by_cases h3 : y.val < n.val
      · rw [if_pos h3, decide_eq_true (p := y < n) h3, Bool.and_true, Bool.false_or]
        generalize decide (imp (ix2 s y) = imp (ix2 s n)) = b
        revert b; decide
      · rw [if_neg h3, decide_eq_false (p := y < n) h3, Bool.and_false]; rfl

theorem rankCol_at (imp : FVec Ideal S2048x32 .f32) (s : Fin 2048) (n : Fin 32) :
    rankCol (F := Ideal) imp n (ix2 s 0) = BitVec.ofNat 32 (Finset.univ.filter fun y => ahead (fun n => imp (ix2 s n)) y n = true).card := by
  pointwise [rankCol, beats_at]
  rw [Idealize.ShloMosaic.IndicatorCount.fold_addi_setWidth_eq_card]
  simp only [ofBool_eq_one_iff]

theorem ranks_at (imp : FVec Ideal S2048x32 .f32) (s : Fin 2048) (n : Fin 32) :
    ranks (F := Ideal) imp (ix2 s n) = rankCol (F := Ideal) imp n (ix2 s 0) := by
  unfold ranks
  exact concatenate_ofFn_unit_apply (s₁ := S2048x1) (t := S2048x32) 1 (fun n => rankCol (F := Ideal) imp n) _ rfl rfl (ix2 s n) n rfl (ix2 s 0) fun b hb => by
    fin_cases b
    · rfl
    · exact absurd rfl hb

/-- The block a query lies in. -/
theorem own_word : ∀ s : Fin 2048,
    Scalar.select
      (IntOp.andi
        (IntOp.cmpi CmpIPredicate.ne
          (IntOp.subi (BitVec.setWidth 32 (IntOp.cmpi CmpIPredicate.sgt (BitVec.ofNat 32 s.val) 0#32))
            (BitVec.setWidth 32 (IntOp.cmpi CmpIPredicate.slt (BitVec.ofNat 32 s.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 s.val) 64#32) 0#32))
      (IntOp.subi (IntOp.divsi ArithUnit.vector (BitVec.ofNat 32 s.val) 64#32) 1#32)
      (IntOp.divsi ArithUnit.vector (BitVec.ofNat 32 s.val) 64#32) = BitVec.ofNat 32 (s.val / 64) := by
  decide +kernel

theorem selFrom_at (r : IVec S2048x32 32) (s : Fin 2048) (n : Fin 32) (c : ℕ) (hc : c ≤ 32) (hr : r (ix2 s n) = BitVec.ofNat 32 c) :
    selFrom (F := Ideal) r (ix3 0 s n) = if c < 16 ∨ s.val / 64 = n.val then (1 : EReal) else 0 := by
  unfold selFrom
  pointwise [k1_pay1, k1_pay73, k1_pay74, posNo, blkNo]
  have e := own_word s
  simp only [hr, slt_word (a := c) (b := 16) (by omega) (by omega)]
  refine (congrArg (fun w => FloatOps.sitofp (F := Ideal) .f32 (BitVec.setWidth 32 (IntOp.ori (BitVec.ofBool (decide (c < 16))) (IntOp.cmpi .eq w (BitVec.ofNat 32 n.val))))) e).trans ?_
  simp only [eq_word (a := s.val / 64) (b := n.val) (by omega) (by omega), ori_ofBool, ← Bool.decide_or]
  exact sitofp_ofBool _

end Cert.Proof.Nsa

end
-- ==== Proof.Nsa.CmpSpec.lean ====
/- The compression call's two results at a point, as the layer has them. -/
module

public import proofs.«01_k».proof.Proof.Nsa.CmpVal

@[expose] public section

set_option maxRecDepth 16384

noncomputable section

namespace Cert.Proof.Nsa

open Cert.KernelIdeal Cert.KernelIdeal.Gen
open Idealize.ShloMosaic Cert.Proof.Soft Cert.Proof.Spec Cert.Proof.Words Cert.Proof.Rank

/-- A head's group. -/
theorem grp_headAt (g r : Fin 4) : grp (headAt g r) = g := by apply Fin.ext; show (g.val * 4 + r.val) / 4 = g.val; omega

/-- A head's column in its group's block. -/
abbrev colOf (r : Fin 4) (d : Fin 128) : Fin 512 := ⟨128 * r.val + d.val, by omega⟩

variable (b0 : FVec Ideal S2048x512 .bf16) (b1 b2 : FVec Ideal S2048x128 .f32)
  (Q : Fin 16 → Fin 2048 → Fin 128 → EReal) (K U : Fin 4 → Fin 2048 → Fin 128 → EReal) (g : Fin 4)
  (hq : ∀ (r : Fin 4) (s : Fin 2048) (d : Fin 128), b0 (ix2 s (colOf r d)) = Q (headAt g r) s d)
  (hk : ∀ (s : Fin 2048) (d : Fin 128), b1 (ix2 s d) = K g s d)
  (hv : ∀ (s : Fin 2048) (d : Fin 128), b2 (ix2 s d) = U g s d)

include hq hk in
theorem hsc_spec (r : Fin 4) (s : Fin 2048) (n : Fin 32) : hsc (k1_pay2 (F := Ideal) b1) (headOf (F := Ideal) b0 r) s n = cs Q K (headAt g r) s n := by
  unfold hsc cs Spec.mean
  rw [grp_headAt]
  simp only [headOf_at, hq, mean_k_at, hk]

include hq hk in
theorem headW_spec (r : Fin 4) (s : Fin 2048) (n : Fin 32) : headW (F := Ideal) (k1_pay2 b1) (headOf b0 r) (ix2 s n) = pn Q K (headAt g r) s n := by
  rw [headW_at]
  simp only [hsc_spec b0 b1 Q K g hq hk]
  rfl

include hq hk hv in
/-- The compression branch's output. -/
theorem cmpOut_spec (r : Fin 4) (s : Fin 2048) (d : Fin 128) : cmpOut (F := Ideal) b0 b1 b2 (ix2 s ⟨128 * r.val + d.val, by omega⟩) = oc Q K U (headAt g r) s d := by
  refine (cmpOut_at (F := Ideal) b0 b1 b2 r s d rfl).trans ?_
  rw [headO_at]
  simp only [headW_spec b0 b1 Q K g hq hk]
  unfold pn oc
  rw [div_sum _ _ _ (max_floor_pos _), grp_headAt]
  simp only [mean_v_at, hv]
  rfl

include hq hk in
/-- The selection's indicator. -/
theorem sel_spec (s : Fin 2048) (n : Fin 32) :
    selFrom (F := Ideal) (ranks (F := Ideal) (importance (F := Ideal) (k1_pay2 b1) b0)) (ix3 0 s n) = if picked Q K g s n then (1 : EReal) else 0 := by
  have hi : (fun n => importance (F := Ideal) (k1_pay2 b1) b0 (ix2 s n)) = imp Q K g s := funext fun n => by
    rw [importance_at]
    simp only [headW_spec b0 b1 Q K g hq hk]
    rfl
  refine selFrom_at _ s n _ ?_ ((ranks_at _ s n).trans ((rankCol_at _ s n).trans (by rw [hi])))
  exact (Finset.card_le_univ _).trans (by simp)

end Cert.Proof.Nsa

end
-- ==== Proof.Nsa.TileVal.lean ====
/- A key tile's step over the extended reals. -/
module

public import proofs.«01_k».proof.Proof.Nsa.AttnCall
public import proofs.«01_k».proof.Proof.Nsa.Words
public import Idealize.ShloMosaic.Lib.Pointwise

@[expose] public section

set_option maxRecDepth 16384

noncomputable section

namespace Cert.Proof.Nsa

open Cert.KernelIdeal Cert.KernelIdeal.Gen
open Idealize.ShloMosaic Idealize.ShloMosaic.WordCmp Cert.Proof.Soft Cert.Proof.Spec Cert.Proof.Words

theorem rowPos_at (qt : Fin 16) (i j : Fin 128) : rowPos (BitVec.ofNat 32 qt.val) (ix2 i j) = BitVec.ofNat 32 (i.val + qt.val * 128) := by
  pointwise [rowPos]
  rw [show Scalar.muli (BitVec.ofNat 32 qt.val) 128#32 = _ from mul_word _ 128]
  exact add_word _ _

theorem keyPos_at (n : Fin 16) (i j : Fin 128) : keyPos n.val (ix2 i j) = BitVec.ofNat 32 (j.val + 128 * n.val) := by
  pointwise [keyPos, lane]
  exact add_word _ _

theorem causal_at (qt n : Fin 16) (i j : Fin 128) : causal (BitVec.ofNat 32 qt.val) n.val (ix2 i j) = BitVec.ofBool (decide (j.val + 128 * n.val ≤ i.val + qt.val * 128)) := by
  pointwise [causal, rowPos_at, keyPos_at]
  exact sge_word (by omega) (by omega)

theorem winMask_at (qt n : Fin 16) (i j : Fin 128) : winMask (BitVec.ofNat 32 qt.val) n.val (ix2 i j)
    = BitVec.ofBool (decide (j.val + 128 * n.val ≤ i.val + qt.val * 128 ∧ i.val + qt.val * 128 < j.val + 128 * n.val + 512)) := by
  pointwise [winMask, causal_at, rowPos_at, keyPos_at]
  exact win_word (by omega) (by omega)

theorem selMask_at (qt n : Fin 16) (ca cb : FVec Ideal S128x1 .f32) (i j : Fin 128) : selMask (F := Ideal) (BitVec.ofNat 32 qt.val) n.val ca cb (ix2 i j)
    = BitVec.ofBool (decide (0 < (if j.val < 64 then ca (ix2 i 0) else cb (ix2 i 0) : EReal) ∧ j.val + 128 * n.val ≤ i.val + qt.val * 128)) := by
  pointwise [selMask, causal_at, lane]
  rw [show IntOp.cmpi .slt (BitVec.ofNat 32 j.val) 64#32 = _ from slt_word (b := 64) (by omega) (by omega), select_dec, andi_ofBool, ← Bool.decide_and]

theorem selCol_at (sel : FVec Ideal S128x32 .f32) (n : Fin 32) (i : Fin 128) : selCol (F := Ideal) sel n (ix2 i 0) = sel (ix2 i n) := by
  pointwise [selCol]

theorem scores_at (q kt : FVec Ideal S128x128 .bf16) (i j : Fin 128) : scores (F := Ideal) q kt (ix2 i j) = (∑ d, q (ix2 i d) * kt (ix2 j d)) * scale := by
  unfold scale
  pointwise [scores]

theorem tmask_bot : (Named.named (F := Ideal) κ "mask" (φ := .f32) 0xF149F2CA#32 : EReal) = ⊥ := rfl

section
variable (mask : IVec S128x128 1) (P : Fin 128 → Fin 128 → Prop) [∀ i j, Decidable (P i j)] (hm : ∀ i j, mask (ix2 i j) = BitVec.ofBool (decide (P i j)))
  (s : FVec Ideal S128x128 .f32) (vt : FVec Ideal S128x128 .bf16) (c : Triple Ideal)

include hm

theorem masked_at (i j : Fin 128) : masked (F := Ideal) mask s (ix2 i j) = seen (P i j) (s (ix2 i j)) := by
  pointwise [masked, hm]
  rw [tmask_bot]; rfl

theorem newMax_at (m0 : FVec Ideal S128x1 .f32) (i : Fin 128) : newMax (F := Ideal) mask s m0 (ix2 i 0) = max (m0 (ix2 i 0)) (Finset.univ.sup fun j => seen (P i j) (s (ix2 i j))) := by
  have h := masked_at mask P hm s
  pointwise [newMax, h]
  rw [ofBits_bot]; rfl

theorem weights_at (m0 : FVec Ideal S128x1 .f32) (i j : Fin 128) : weights (F := Ideal) mask s m0 (ix2 i j) = wt (P i j) (s (ix2 i j)) (newMax (F := Ideal) mask s m0 (ix2 i 0)) := by
  have h := masked_at mask P hm s
  pointwise [weights, h, hm]
  rw [sitofp_ofBool]; rfl

theorem upd_sum (i : Fin 128) : (upd (F := Ideal) mask s vt c).2.1 (ix2 i 0)
    = c.2.1 (ix2 i 0) * Ideal.exp (c.1 (ix2 i 0) - newMax (F := Ideal) mask s c.1 (ix2 i 0)) + ∑ j, wt (P i j) (s (ix2 i j)) (newMax (F := Ideal) mask s c.1 (ix2 i 0)) := by
  have h := weights_at mask P hm s c.1
  generalize hN : newMax (F := Ideal) mask s = N at *
  pointwise [upd, shrink, h, hN]

theorem upd_acc (i d : Fin 128) : (upd (F := Ideal) mask s vt c).2.2 (ix2 i d)
    = c.2.2 (ix2 i d) * Ideal.exp (c.1 (ix2 i 0) - newMax (F := Ideal) mask s c.1 (ix2 i 0)) + ∑ j, wt (P i j) (s (ix2 i j)) (newMax (F := Ideal) mask s c.1 (ix2 i 0)) * vt (ix2 j d) := by
  have h := weights_at mask P hm s c.1
  generalize hN : newMax (F := Ideal) mask s = N at *
  pointwise [upd, shrink, h, hN]

end

theorem colMax_ge (v : FVec Ideal S128x1 .f32) (i : Fin 128) : v (ix2 i 0) ≤ colMax (F := Ideal) v := by
  pointwise [colMax]
  rw [ofBits_bot]
  exact Finset.le_sup (f := fun x => v (ix2 x.1 0)) (Finset.mem_univ ((i, 0) : Fin 128 × Fin 1))

theorem finish_at (g : FVec Ideal S1x128x3 .f32) (oc : FVec Ideal S128x128 .f32) (c : Carry Ideal) (i d : Fin 128) :
    finish (F := Ideal) g oc c (ix2 i d)
      = Ideal.div 1 (1 + Ideal.exp (-(g (ix3 0 i 0)))) * oc (ix2 i d)
        + Ideal.div 1 (1 + Ideal.exp (-(g (ix3 0 i 1)))) * Ideal.div (c.sel.2.2 (ix2 i d)) (max (c.sel.2.1 (ix2 i 0)) Spec.floor)
        + Ideal.div 1 (1 + Ideal.exp (-(g (ix3 0 i 2)))) * Ideal.div (c.win.2.2 (ix2 i d)) (max (c.win.2.1 (ix2 i 0)) Spec.floor) := by
  unfold Spec.floor
  pointwise [finish, k2_pay1, k2_pay352, k2_pay353, k2_pay354]
  rfl

end Cert.Proof.Nsa

end
-- ==== Proof.Nsa.AttnVal.lean ====
/- The attention call's result over the extended reals: the tiles, worked or skipped, are the softmax over all the keys. -/
module

public import proofs.«01_k».proof.Proof.Nsa.TileVal

@[expose] public section

set_option maxRecDepth 16384

noncomputable section

namespace Cert.Proof.Nsa

open Cert.KernelIdeal Cert.KernelIdeal.Gen
open Idealize.ShloMosaic Idealize.ShloMosaic.WordCmp Cert.Proof.Soft Cert.Proof.Spec Cert.Proof.Words

/-- A branch's triple after `n` tiles: the softmax over the keys so far. -/
structure Inv (p : Fin 128 → ℕ → Prop) [∀ i, DecidablePred (p i)] (sc vv : Fin 128 → ℕ → EReal) (n : ℕ) (c : Triple Ideal) : Prop where
  max : ∀ i, c.1 (ix2 i 0) = top (p i) (sc i) (128 * n)
  sum : ∀ i, c.2.1 (ix2 i 0) = acc (p i) (sc i) (fun _ => 1) (128 * n)
  out : ∀ i d, c.2.2 (ix2 i d) = acc (p i) (sc i) (vv d) (128 * n)

section
variable (p : Fin 128 → ℕ → Prop) [∀ i, DecidablePred (p i)] (sc vv : Fin 128 → ℕ → EReal)

theorem inv_start : Inv p sc vv 0 (start (F := Ideal)) where
  max _ := tmask_bot
  sum _ := ofBits_nil
  out _ _ := ofBits_nil

/-- A tile with no key seen leaves the triple right. -/
theorem inv_idle {n : ℕ} {c : Triple Ideal} (h : Inv p sc vv n c) (hp : ∀ i (j : Fin 128), ¬ p i (128 * n + j.val)) : Inv p sc vv (n + 1) c where
  max i := (h.max i).trans (top_idle (p i) (sc i) (128 * n) 128 (hp i)).symm
  sum i := (h.sum i).trans (acc_idle (p i) (sc i) _ (128 * n) 128 (hp i)).symm
  out i d := (h.out i d).trans (acc_idle (p i) (sc i) _ (128 * n) 128 (hp i)).symm

/-- A worked tile. -/
theorem inv_upd {n : ℕ} {c : Triple Ideal} (h : Inv p sc vv n c) (mask : IVec S128x128 1) (s : FVec Ideal S128x128 .f32) (vt : FVec Ideal S128x128 .bf16)
    (hm : ∀ i j : Fin 128, mask (ix2 i j) = BitVec.ofBool (decide (p i (128 * n + j.val))))
    (hs : ∀ i j : Fin 128, s (ix2 i j) = sc i (128 * n + j.val)) (hv : ∀ j d : Fin 128, vt (ix2 j d) = vv d (128 * n + j.val)) :
    Inv p sc vv (n + 1) (upd (F := Ideal) mask s vt c) := by
  have hM : ∀ i, newMax (F := Ideal) mask s c.1 (ix2 i 0) = top (p i) (sc i) (128 * n + 128) := fun i => by
    rw [newMax_at mask (fun i j => p i (128 * n + j.val)) hm, top_add, h.max]
    simp only [hs]
  refine ⟨fun i => hM i, fun i => ?_, fun i d => ?_⟩
  · refine (upd_sum mask (fun i j => p i (128 * n + j.val)) hm s vt c i).trans ?_
    rw [hM, h.max, h.sum]
    refine Eq.trans ?_ (acc_add (p i) (sc i) _ (128 * n) 128).symm
    simp only [hs, mul_one]
  · refine (upd_acc mask (fun i j => p i (128 * n + j.val)) hm s vt c i d).trans ?_
    rw [hM, h.max, h.out]
    refine Eq.trans ?_ (acc_add (p i) (sc i) _ (128 * n) 128).symm
    simp only [hs, hv]

end

/-! ## The two branches' keys -/

variable (qt : Fin 16)

/-- Keys seen by the selection branch. -/
abbrev pSel (sel : FVec Ideal S128x32 .f32) (i : Fin 128) (t : ℕ) : Prop := (0 < (if h : t / 64 < 32 then sel (ix2 i ⟨t / 64, h⟩) else 0 : EReal)) ∧ t ≤ i.val + qt.val * 128

/-- Keys seen by the window branch. -/
abbrev pWin (i : Fin 128) (t : ℕ) : Prop := t ≤ i.val + qt.val * 128 ∧ i.val + qt.val * 128 < t + 512

/-- A query's scores, and a column of the values, by key position. -/
def scAt (q : FVec Ideal S128x128 .bf16) (k : FVec Ideal S2048x128 .bf16) (i : Fin 128) (t : ℕ) : EReal :=
  if h : t < 2048 then (∑ d : Fin 128, (q (ix2 i d) : EReal) * k (ix2 ⟨t, h⟩ d)) * scale else 0
def vAt (v : FVec Ideal S2048x128 .bf16) (d : Fin 128) (t : ℕ) : EReal := if h : t < 2048 then v (ix2 ⟨t, h⟩ d) else 0

theorem tile_at (k : FVec Ideal S2048x128 .bf16) (n : Fin 16) (j d : Fin 128) : k ((tileRect n).emb (ix2 j d)) = k (ix2 ⟨128 * n.val + j.val, by omega⟩ d) := by
  refine congrArg k (funext fun e => ?_)
  fin_cases e <;> apply Fin.ext
  · show 128 * n.val + 1 * j.val = 128 * n.val + j.val; omega
  · show 0 + 1 * d.val = d.val; omega

theorem scores_tile (q : FVec Ideal S128x128 .bf16) (k : FVec Ideal S2048x128 .bf16) (n : Fin 16) (i j : Fin 128) :
    scores (F := Ideal) q (fun x => k ((tileRect n).emb x)) (ix2 i j) = scAt q k i (128 * n.val + j.val) := by
  rw [scores_at]; unfold scAt
  rw [dif_pos (by omega)]
  simp only [tile_at]

theorem selMask_tile (sel : FVec Ideal S128x32 .f32) (n : Fin 16) (i j : Fin 128) :
    selMask (F := Ideal) (BitVec.ofNat 32 qt.val) n.val (colA sel n) (colB sel n) (ix2 i j) = BitVec.ofBool (decide (pSel qt sel i (128 * n.val + j.val))) := by
  rw [selMask_at]
  refine ofBool_congr ?_
  unfold colA colB
  rw [selCol_at, selCol_at]
  have e : (if j.val < 64 then sel (ix2 i ⟨2 * n.val, by omega⟩) else sel (ix2 i ⟨2 * n.val + 1, by omega⟩) : EReal)
      = if h : (128 * n.val + j.val) / 64 < 32 then sel (ix2 i ⟨(128 * n.val + j.val) / 64, h⟩) else 0 := by
    rw [dif_pos (by omega)]
    split
    · congr 2; apply Fin.ext; show 2 * n.val = (128 * n.val + j.val) / 64; omega
    · congr 2; apply Fin.ext; show 2 * n.val + 1 = (128 * n.val + j.val) / 64; omega
  rw [e]
  exact and_congr Iff.rfl (by omega)

theorem winMask_tile (n : Fin 16) (i j : Fin 128) : winMask (BitVec.ofNat 32 qt.val) n.val (ix2 i j) = BitVec.ofBool (decide (pWin qt i (128 * n.val + j.val))) := by
  rw [winMask_at]
  exact ofBool_congr (by omega)

/-- The window's test fails only for tiles the window does not reach. -/
theorem win_far : ∀ qt n : Fin 16, winTest (BitVec.ofNat 32 qt.val) n.val ∨ n.val + 5 ≤ qt.val := by decide

/-- A tile is left out only if it is later than the query, or nothing of it is selected and the window does not reach it. -/
theorem guard_far : ∀ (qt n : Fin 16) (b : BitVec 1),
    Scalar.cmpi .ne (Scalar.extui (Scalar.andi (Scalar.cmpi .sge (BitVec.ofNat 32 qt.val) (BitVec.ofNat 32 n.val)) (Scalar.ori b (winOn (BitVec.ofNat 32 qt.val) n.val))) : BitVec 32) 0#32 = 1#1
      ∨ qt.val < n.val ∨ (b = 0#1 ∧ n.val + 5 ≤ qt.val) := by decide

theorem none_selected (ca cb : FVec Ideal S128x1 .f32) (h : selAny (F := Ideal) ca cb = 0#1) (i : Fin 128) : ¬ (0 : EReal) < ca (ix2 i 0) ∧ ¬ (0 : EReal) < cb (ix2 i 0) := by
  have h' : BitVec.ofBool (decide (Ideal.ofBits .f32 0x00000000#32 < max (colMax (F := Ideal) ca : EReal) (colMax (F := Ideal) cb))) = 0#1 := h
  rw [ofBool_decide_eq_zero_iff, ofBits_nil] at h'
  exact ⟨fun hc => h' (lt_max_of_lt_left (lt_of_lt_of_le hc (colMax_ge ca i))), fun hc => h' (lt_max_of_lt_right (lt_of_lt_of_le hc (colMax_ge cb i)))⟩

theorem pWin_far {n : Fin 16} (h : n.val + 5 ≤ qt.val ∨ qt.val < n.val) (i j : Fin 128) : ¬ pWin qt i (128 * n.val + j.val) := by
  rintro ⟨h1, h2⟩; omega

/-- Both triples after `n` tiles. -/
theorem carry_inv (q : FVec Ideal S128x128 .bf16) (sel : FVec Ideal S128x32 .f32) (k v : FVec Ideal S2048x128 .bf16) (n : ℕ) (hn : n ≤ 16) :
    Inv (pSel qt sel) (scAt q k) (vAt v) n (carryAt (F := Ideal) (BitVec.ofNat 32 qt.val) q sel (fun n x => k ((tileRect n).emb x)) (fun n x => v ((tileRect n).emb x)) n hn).sel
    ∧ Inv (pWin qt) (scAt q k) (vAt v) n (carryAt (F := Ideal) (BitVec.ofNat 32 qt.val) q sel (fun n x => k ((tileRect n).emb x)) (fun n x => v ((tileRect n).emb x)) n hn).win := by
  induction n with
  | zero => exact ⟨inv_start _ _ _, inv_start _ _ _⟩
  | succ n ih =>
    obtain ⟨ihs, ihw⟩ := ih (by omega)
    have hv : ∀ j d : Fin 128, v ((tileRect ⟨n, by omega⟩).emb (ix2 j d)) = vAt v d (128 * n + j.val) := fun j d =>
      (tile_at v ⟨n, by omega⟩ j d).trans (by unfold vAt; rw [dif_pos (by omega)])
    unfold carryAt step
    generalize carryAt (F := Ideal) (BitVec.ofNat 32 qt.val) q sel (fun n x => k ((tileRect n).emb x)) (fun n x => v ((tileRect n).emb x)) n (by omega) = c at *
    split
    · refine ⟨inv_upd _ _ _ ihs _ _ _ (selMask_tile qt sel ⟨n, by omega⟩) (scores_tile q k ⟨n, by omega⟩) hv, ?_⟩
      show Inv _ _ _ _ (if winTest (BitVec.ofNat 32 qt.val) n then _ else c.win)
      split
      · exact inv_upd _ _ _ ihw _ _ _ (winMask_tile qt ⟨n, by omega⟩) (scores_tile q k ⟨n, by omega⟩) hv
      · next h => exact inv_idle _ _ _ ihw (pWin_far qt (n := ⟨n, by omega⟩) (.inl ((win_far qt ⟨n, by omega⟩).resolve_left h)))
    · next h =>
      rcases (guard_far qt ⟨n, by omega⟩ _).resolve_left h with h' | ⟨hb, h'⟩
      · refine ⟨inv_idle _ _ _ ihs ?_, inv_idle _ _ _ ihw (pWin_far qt (n := ⟨n, by omega⟩) (.inr h'))⟩
        rintro i j ⟨-, h2⟩
        change qt.val < n at h'
        omega
      · refine ⟨inv_idle _ _ _ ihs fun i j => ?_, inv_idle _ _ _ ihw (pWin_far qt (n := ⟨n, by omega⟩) (.inl h'))⟩
        have hm := none_selected _ _ hb i
        intro hp
        have h1 := selMask_at qt ⟨n, by omega⟩ (colA sel ⟨n, by omega⟩) (colB sel ⟨n, by omega⟩) i j
        rw [selMask_tile, decide_eq_true hp] at h1
        have h2 := of_decide_eq_true ((ofBool_eq_one_iff _).mp h1.symm)
        by_cases hj : j.val < 64
        · rw [if_pos hj] at h2; exact hm.1 h2.1
        · rw [if_neg hj] at h2; exact hm.2 h2.1

/-- The keys by position are all the keys. -/
theorem branch_range (p : ℕ → Prop) [DecidablePred p] (sc w : ℕ → EReal) :
    Ideal.div (acc p sc w 2048) (max (acc p sc (fun _ => 1) 2048) Spec.floor) = branch (fun t : Fin 2048 => p t.val) (fun t => sc t.val) (fun t => w t.val) := by
  have ht : top p sc 2048 = bmax (fun t : Fin 2048 => p t.val) (fun t => sc t.val) := by
    have key : ∀ a b, a = b → seen (p a) (sc a) = seen (p b) (sc b) := by rintro a _ rfl; rfl
    have e : top p sc 2048 = _ := top_add p sc 0 2048
    rw [e, top_zero, max_eq_right bot_le]
    exact Finset.sup_congr rfl fun j _ => key _ _ (Nat.zero_add _)
  have hw : ∀ t : Fin 2048, wt (p t.val) (sc t.val) (top p sc 2048) = wt (p t.val) (sc t.val) (away (bmax (fun t : Fin 2048 => p t.val) (fun t => sc t.val))) := fun t => by
    rw [ht]
    exact (wt_away (Finset.le_sup (f := fun t : Fin 2048 => seen (p t.val) (sc t.val)) (Finset.mem_univ t))).symm
  unfold branch acc
  rw [Finset.sum_range, Finset.sum_range]
  simp only [hw, mul_one]

/-- The attention call's result at a query and a column. -/
theorem attnOut_at (q : FVec Ideal S128x128 .bf16) (k v : FVec Ideal S2048x128 .bf16) (sel : FVec Ideal S1x128x32 .f32) (oc : FVec Ideal S128x128 .f32) (g : FVec Ideal S1x128x3 .f32) (i d : Fin 128) :
    attnOut (F := Ideal) (BitVec.ofNat 32 qt.val) q k v sel oc g (ix2 i d)
      = Ideal.div 1 (1 + Ideal.exp (-(g (ix3 0 i 0)))) * oc (ix2 i d)
        + Ideal.div 1 (1 + Ideal.exp (-(g (ix3 0 i 1))))
          * branch (fun t => (0 < (sel (ix3 0 i ⟨t.val / 64, by omega⟩) : EReal)) ∧ t.val ≤ i.val + qt.val * 128) (fun t => (∑ d : Fin 128, (q (ix2 i d) : EReal) * k (ix2 t d)) * scale) (fun t => v (ix2 t d))
        + Ideal.div 1 (1 + Ideal.exp (-(g (ix3 0 i 2))))
          * branch (fun t => t.val ≤ i.val + qt.val * 128 ∧ i.val + qt.val * 128 < t.val + 512) (fun t => (∑ d : Fin 128, (q (ix2 i d) : EReal) * k (ix2 t d)) * scale) (fun t => v (ix2 t d)) := by
  have hq : k2_pay2 (F := Ideal) q = q := by
    funext x; idx_vars x; pointwise [k2_pay2]
  have hs : ∀ (a : Fin 128) (b : Fin 32), k2_pay3 (F := Ideal) sel (ix2 a b) = sel (ix3 0 a b) := by
    intro a b; pointwise [k2_pay3]
  obtain ⟨hS, hW⟩ := carry_inv qt q (k2_pay3 (F := Ideal) sel) k v 16 le_rfl
  have hsc : ∀ t : Fin 2048, scAt q k i t.val = (∑ d : Fin 128, (q (ix2 i d) : EReal) * k (ix2 t d)) * scale := fun t => by
    unfold scAt; rw [dif_pos t.isLt]
  have hvv : ∀ t : Fin 2048, vAt v d t.val = v (ix2 t d) := fun t => by
    unfold vAt; rw [dif_pos t.isLt]
  unfold attnOut
  rw [hq, finish_at, hS.sum, hS.out, hW.sum, hW.out]
  have b1 := branch_range (pSel qt (k2_pay3 (F := Ideal) sel) i) (scAt q k i) (vAt v d)
  have b2 := branch_range (pWin qt i) (scAt q k i) (vAt v d)
  simp only [hsc, hvv] at b1 b2
  rw [show 128 * 16 = 2048 from rfl, b1, b2]
  congr 3
  refine branch_congr (fun t => and_congr ?_ Iff.rfl) _ _
  rw [dif_pos (by omega), hs]

end Cert.Proof.Nsa

end
-- ==== Proof.Nsa.Blocks.lean ====
/- The calls' windows over the extended reals: which elements of its array each block is, and the products' results. -/
module

public import proofs.«01_k».proof.Proof.Nsa.CmpSpec
public import proofs.«01_k».proof.Proof.Nsa.AttnVal
public import proofs.«01_k».proof.Proof.Nsa.Launch

@[expose] public section

set_option maxRecDepth 16384

noncomputable section

namespace Cert.Proof.Nsa

open Cert.KernelIdeal Cert.KernelIdeal.Gen
open Idealize.ShloMosaic Cert.Proof.Spec

variable (V : Valuation τ sig (Elt Ideal)) (c : Dev nD)

/-! ## The projection -/

theorem idx0 : ∀ t : Fin cfg0.N, win0_0.index t 0 = t.val / 5 ∧ win0_0.index t 1 = 0 ∧ win0_1.index t 0 = 0 ∧ win0_1.index t 1 = t.val % 5
    ∧ win0_2.index t 0 = t.val / 5 ∧ win0_2.index t 1 = t.val % 5 :=
  (by decide +kernel : ∀ t : Fin grid0.N, _)

theorem blk0_0 (t : Fin cfg0.N) (a : Fin 512) (b r : Fin 2048) (h : r.val = t.val / 5 * 512 + a.val) :
    blkOf (cfg := cfg0) V 0 t (ix2 a b) = V (Proc.devRef .tc main_v3) (ix2 r b) := by
  obtain ⟨e0, e1, -⟩ := idx0 t
  refine congrArg (V (Proc.devRef .tc main_v3)) (funext fun e => Fin.ext ?_)
  match e with
  | ⟨0, _⟩ => show win0_0.index t 0 * 512 + 1 * a.val = r.val; omega
  | ⟨1, _⟩ => show win0_0.index t 1 * 2048 + 1 * b.val = b.val; omega

theorem blk0_1 (t : Fin cfg0.N) (a : Fin 2048) (b : Fin 640) (k : Fin 3200) (h : k.val = t.val % 5 * 640 + b.val) :
    blkOf (cfg := cfg0) V 1 t (ix2 a b) = V (Proc.devRef .tc main_v4) (ix2 a k) := by
  obtain ⟨-, -, e0, e1, -⟩ := idx0 t
  refine congrArg (V (Proc.devRef .tc main_v4)) (funext fun e => Fin.ext ?_)
  match e with
  | ⟨0, _⟩ => show win0_1.index t 0 * 2048 + 1 * a.val = a.val; omega
  | ⟨1, _⟩ => show win0_1.index t 1 * 640 + 1 * b.val = k.val; omega

theorem prod0_at (a : FVec Ideal S512x2048 .bf16) (b : FVec Ideal S2048x640 .bf16) (i : Fin 512) (j : Fin 640) :
    k0_pay1 (F := Ideal) a b (ix2 i j) = ∑ k : Fin 2048, (a (ix2 i k) : EReal) * b (ix2 k j) := by
  pointwise [k0_pay1]

/-- The projection's array: the product of the two it reads. -/
def x3 (s k : Fin 2048) : EReal := V (Proc.devRef .tc main_v3) (ix2 s k)
def w4 (k : Fin 2048) (j : Fin 3200) : EReal := V (Proc.devRef .tc main_v4) (ix2 k j)
def G0 : Vec Ideal S2048x3200 .f32 := fun i => proj (x3 V) (w4 V) (i 0) (i 1)

theorem flushed0 (t : Fin cfg0.N) : (dat0 V c).flushed 2 t = ((cfg0.win 2).blk t).view.read (Elt Ideal) (G0 V) := by
  funext j
  show k0_pay1 (F := Ideal) (blkOf (cfg := cfg0) V 0 t) (blkOf (cfg := cfg0) V 1 t) j = G0 V (((cfg0.win 2).blk t).view.emb j)
  obtain ⟨-, -, -, -, e0, e1⟩ := idx0 t
  have h0 : ((((cfg0.win 2).blk t).view.emb j) 0).val = t.val / 5 * 512 + (j 0).val := by
    show win0_2.index t 0 * 512 + 1 * (j 0).val = _; omega
  have h1 : ((((cfg0.win 2).blk t).view.emb j) 1).val = t.val % 5 * 640 + (j 1).val := by
    show win0_2.index t 1 * 640 + 1 * (j 1).val = _; omega
  have hj : j = ix2 (j 0 : Fin 512) (j 1 : Fin 640) := by funext e; fin_cases e <;> rfl
  refine ((congrArg (k0_pay1 (F := Ideal) (blkOf (cfg := cfg0) V 0 t) (blkOf (cfg := cfg0) V 1 t)) hj).trans
    (prod0_at (blkOf (cfg := cfg0) V 0 t) (blkOf (cfg := cfg0) V 1 t) (j 0) (j 1))).trans ?_
  exact Finset.sum_congr rfl fun k _ => congrArg₂ (fun x y : EReal => x * y) (blk0_0 V t _ k _ h0) (blk0_1 V t k _ _ h1)

theorem cover0 (i : S2048x3200.Idx) : ∃ t : Fin cfg0.N, (cfg0.win 2).flush t = true ∧ i ∈ ((cfg0.win 2).blk t).view.set := by
  have hi0 : (i 0).val < 2048 := (i 0).isLt
  have hi1 : (i 1).val < 3200 := (i 1).isLt
  let t : Fin cfg0.N := ⟨(i 0).val / 512 * 5 + (i 1).val / 640, by show _ < grid0.N; rw [N_0]; omega⟩
  have ht : t.val = (i 0).val / 512 * 5 + (i 1).val / 640 := rfl
  refine ⟨t, flush0_2 _, ?_⟩
  obtain ⟨-, -, -, -, e0, e1⟩ := idx0 t
  have h := ((cfg0.win 2).blk t).view.emb_mem_set (ix2 (⟨(i 0).val % 512, Nat.mod_lt _ (by omega)⟩ : Fin 512) (⟨(i 1).val % 640, Nat.mod_lt _ (by omega)⟩ : Fin 640))
  refine Eq.mp (congrArg (· ∈ ((cfg0.win 2).blk t).view.set) (funext fun e => Fin.ext ?_)) h
  match e with
  | ⟨0, _⟩ => show win0_2.index t 0 * 512 + 1 * ((i 0).val % 512) = (i 0).val; omega
  | ⟨1, _⟩ => show win0_2.index t 1 * 640 + 1 * ((i 1).val % 640) = (i 1).val; omega

theorem arr0 : Pipeline.afterRegion (dat0 V c) V (Proc.devRef .tc main_v5) = G0 V :=
  (Pipeline.afterRegion_arr (dat0 V c) V winFacts0.arr_inj 2).trans ((dat0 V c).arrAt_eq_of_cover 2 (G0 V) (fun t _ => flushed0 V c t) cover0)

/-! ## The output projection -/

theorem idx3 : ∀ t : Fin cfg3.N, win3_0.index t 0 = t.val / 4 ∧ win3_0.index t 1 = 0 ∧ win3_1.index t 0 = 0 ∧ win3_1.index t 1 = t.val % 4
    ∧ win3_2.index t 0 = t.val / 4 ∧ win3_2.index t 1 = t.val % 4 :=
  (by decide +kernel : ∀ t : Fin grid3.N, _)

theorem blk3_0 (t : Fin cfg3.N) (a : Fin 512) (b r : Fin 2048) (h : r.val = t.val / 4 * 512 + a.val) :
    blkOf (cfg := cfg3) V 0 t (ix2 a b) = V (Proc.devRef .tc main_v16) (ix2 r b) := by
  obtain ⟨e0, e1, -⟩ := idx3 t
  refine congrArg (V (Proc.devRef .tc main_v16)) (funext fun e => Fin.ext ?_)
  match e with
  | ⟨0, _⟩ => show win3_0.index t 0 * 512 + 1 * a.val = r.val; omega
  | ⟨1, _⟩ => show win3_0.index t 1 * 2048 + 1 * b.val = b.val; omega

theorem blk3_1 (t : Fin cfg3.N) (a : Fin 2048) (b : Fin 512) (k : Fin 2048) (h : k.val = t.val % 4 * 512 + b.val) :
    blkOf (cfg := cfg3) V 1 t (ix2 a b) = V (Proc.devRef .tc main_v17) (ix2 a k) := by
  obtain ⟨-, -, e0, e1, -⟩ := idx3 t
  refine congrArg (V (Proc.devRef .tc main_v17)) (funext fun e => Fin.ext ?_)
  match e with
  | ⟨0, _⟩ => show win3_1.index t 0 * 2048 + 1 * a.val = a.val; omega
  | ⟨1, _⟩ => show win3_1.index t 1 * 512 + 1 * b.val = k.val; omega

theorem prod3_at (a : FVec Ideal S512x2048 .bf16) (b : FVec Ideal S2048x512 .bf16) (i : Fin 512) (j : Fin 512) :
    k3_pay1 (F := Ideal) a b (ix2 i j) = ∑ k : Fin 2048, (a (ix2 i k) : EReal) * b (ix2 k j) := by
  pointwise [k3_pay1]

/-- The output projection's array: the product of the two it reads. -/
def x16 (s j : Fin 2048) : EReal := V (Proc.devRef .tc main_v16) (ix2 s j)
def w17 (k : Fin 2048) (j : Fin 2048) : EReal := V (Proc.devRef .tc main_v17) (ix2 k j)
def G3 : Vec Ideal S2048x2048 .f32 := fun i => proj (x16 V) (w17 V) (i 0) (i 1)

theorem flushed3 (t : Fin cfg3.N) : (dat3 V c).flushed 2 t = ((cfg3.win 2).blk t).view.read (Elt Ideal) (G3 V) := by
  funext j
  show k3_pay1 (F := Ideal) (blkOf (cfg := cfg3) V 0 t) (blkOf (cfg := cfg3) V 1 t) j = G3 V (((cfg3.win 2).blk t).view.emb j)
  obtain ⟨-, -, -, -, e0, e1⟩ := idx3 t
  have h0 : ((((cfg3.win 2).blk t).view.emb j) 0).val = t.val / 4 * 512 + (j 0).val := by
    show win3_2.index t 0 * 512 + 1 * (j 0).val = _; omega
  have h1 : ((((cfg3.win 2).blk t).view.emb j) 1).val = t.val % 4 * 512 + (j 1).val := by
    show win3_2.index t 1 * 512 + 1 * (j 1).val = _; omega
  have hj : j = ix2 (j 0 : Fin 512) (j 1 : Fin 512) := by funext e; fin_cases e <;> rfl
  refine ((congrArg (k3_pay1 (F := Ideal) (blkOf (cfg := cfg3) V 0 t) (blkOf (cfg := cfg3) V 1 t)) hj).trans
    (prod3_at (blkOf (cfg := cfg3) V 0 t) (blkOf (cfg := cfg3) V 1 t) (j 0) (j 1))).trans ?_
  exact Finset.sum_congr rfl fun k _ => congrArg₂ (fun x y : EReal => x * y) (blk3_0 V t _ k _ h0) (blk3_1 V t k _ _ h1)

theorem cover3 (i : S2048x2048.Idx) : ∃ t : Fin cfg3.N, (cfg3.win 2).flush t = true ∧ i ∈ ((cfg3.win 2).blk t).view.set := by
  have hi0 : (i 0).val < 2048 := (i 0).isLt
  have hi1 : (i 1).val < 2048 := (i 1).isLt
  let t : Fin cfg3.N := ⟨(i 0).val / 512 * 4 + (i 1).val / 512, by show _ < grid3.N; rw [N_3]; omega⟩
  have ht : t.val = (i 0).val / 512 * 4 + (i 1).val / 512 := rfl
  refine ⟨t, flush3_2 _, ?_⟩
  obtain ⟨-, -, -, -, e0, e1⟩ := idx3 t
  have h := ((cfg3.win 2).blk t).view.emb_mem_set (ix2 (⟨(i 0).val % 512, Nat.mod_lt _ (by omega)⟩ : Fin 512) (⟨(i 1).val % 512, Nat.mod_lt _ (by omega)⟩ : Fin 512))
  refine Eq.mp (congrArg (· ∈ ((cfg3.win 2).blk t).view.set) (funext fun e => Fin.ext ?_)) h
  match e with
  | ⟨0, _⟩ => show win3_2.index t 0 * 512 + 1 * ((i 0).val % 512) = (i 0).val; omega
  | ⟨1, _⟩ => show win3_2.index t 1 * 512 + 1 * ((i 1).val % 512) = (i 1).val; omega

theorem arr3 : Pipeline.afterRegion (dat3 V c) V (Proc.devRef .tc main_v18) = G3 V :=
  (Pipeline.afterRegion_arr (dat3 V c) V winFacts3.arr_inj 2).trans ((dat3 V c).arrAt_eq_of_cover 2 (G3 V) (fun t _ => flushed3 V c t) cover3)

end Cert.Proof.Nsa

end
-- ==== Proof.Nsa.Blocks1.lean ====
/- The compression call's two arrays over the extended reals. -/
module

public import proofs.«01_k».proof.Proof.Nsa.CmpSpec
public import proofs.«01_k».proof.Proof.Nsa.Launch

@[expose] public section

set_option maxRecDepth 16384

noncomputable section

namespace Cert.Proof.Nsa

open Cert.KernelIdeal Cert.KernelIdeal.Gen
open Idealize.ShloMosaic Cert.Proof.Spec

variable (V : Valuation τ sig (Elt Ideal)) (c : Dev nD)

/-- The queries, keys, values by head or group, as the call finds them. -/
def qK (h : Fin 16) (s : Fin 2048) (d : Fin 128) : EReal := V (Proc.devRef .tc main_v12) (ix2 s ⟨h.val * 128 + d.val, by omega⟩)
def k7 (g : Fin 4) (s : Fin 2048) (d : Fin 128) : EReal := V (Proc.devRef .tc main_v7) (ix2 s ⟨g.val * 128 + d.val, by omega⟩)
def u8 (g : Fin 4) (s : Fin 2048) (d : Fin 128) : EReal := V (Proc.devRef .tc main_v8) (ix2 s ⟨g.val * 128 + d.val, by omega⟩)

theorem idx1 : ∀ t : Fin cfg1.N, win1_0.index t 0 = 0 ∧ win1_0.index t 1 = t.val ∧ win1_1.index t 0 = 0 ∧ win1_1.index t 1 = t.val
    ∧ win1_2.index t 0 = 0 ∧ win1_2.index t 1 = t.val ∧ win1_3.index t 0 = 0 ∧ win1_3.index t 1 = t.val
    ∧ win1_4.index t 0 = t.val ∧ win1_4.index t 1 = 0 ∧ win1_4.index t 2 = 0 :=
  (by decide +kernel : ∀ t : Fin grid1.N, _)

/-- A point's group. -/
def grpOf (t : Fin cfg1.N) : Fin 4 := ⟨t.val, lt_of_lt_of_eq t.isLt N_1⟩

theorem blk1_0 (t : Fin cfg1.N) (r : Fin 4) (s : Fin 2048) (d : Fin 128) :
    blkOf (cfg := cfg1) V 0 t (ix2 s (⟨128 * r.val + d.val, by omega⟩ : Fin 512)) = qK V (headAt (grpOf t) r) s d := by
  obtain ⟨e0, e1, -⟩ := idx1 t
  refine congrArg (V (Proc.devRef .tc main_v12)) (funext fun e => Fin.ext ?_)
  match e with
  | ⟨0, _⟩ => show win1_0.index t 0 * 2048 + 1 * s.val = s.val; omega
  | ⟨1, _⟩ => show win1_0.index t 1 * 512 + 1 * (128 * r.val + d.val) = (t.val * 4 + r.val) * 128 + d.val; omega

theorem blk1_1 (t : Fin cfg1.N) (s : Fin 2048) (d : Fin 128) : blkOf (cfg := cfg1) V 1 t (ix2 s d) = k7 V (grpOf t) s d := by
  obtain ⟨-, -, e0, e1, -⟩ := idx1 t
  refine congrArg (V (Proc.devRef .tc main_v7)) (funext fun e => Fin.ext ?_)
  match e with
  | ⟨0, _⟩ => show win1_1.index t 0 * 2048 + 1 * s.val = s.val; omega
  | ⟨1, _⟩ => show win1_1.index t 1 * 128 + 1 * d.val = t.val * 128 + d.val; omega

theorem blk1_2 (t : Fin cfg1.N) (s : Fin 2048) (d : Fin 128) : blkOf (cfg := cfg1) V 2 t (ix2 s d) = u8 V (grpOf t) s d := by
  obtain ⟨-, -, -, -, e0, e1, -⟩ := idx1 t
  refine congrArg (V (Proc.devRef .tc main_v8)) (funext fun e => Fin.ext ?_)
  match e with
  | ⟨0, _⟩ => show win1_2.index t 0 * 2048 + 1 * s.val = s.val; omega
  | ⟨1, _⟩ => show win1_2.index t 1 * 128 + 1 * d.val = t.val * 128 + d.val; omega

/-- The compression branch's array. -/
def G1o : Vec Ideal S2048x2048 .f32 := fun i =>
  oc (qK V) (k7 V) (u8 V) ⟨(i 1).val / 128, by have : (i 1).val < 2048 := (i 1).isLt; omega⟩ (i 0) ⟨(i 1).val % 128, Nat.mod_lt _ (by omega)⟩

/-- The selection's array. -/
def G1s : Vec Ideal S4x2048x32 .f32 := fun i => if picked (qK V) (k7 V) (i 0) (i 1) (i 2) then (1 : EReal) else 0

theorem oc_congr {Q : Fin 16 → Fin 2048 → Fin 128 → EReal} {K U : Fin 4 → Fin 2048 → Fin 128 → EReal} {h h' : Fin 16} {s s' : Fin 2048} {d d' : Fin 128}
    (e : h = h') (e1 : s = s') (e2 : d = d') : oc Q K U h s d = oc Q K U h' s' d' := by rw [e, e1, e2]

theorem picked_congr {Q : Fin 16 → Fin 2048 → Fin 128 → EReal} {K : Fin 4 → Fin 2048 → Fin 128 → EReal} {g g' : Fin 4} {s s' : Fin 2048} {n n' : Fin 32}
    (e : g = g') (e1 : s = s') (e2 : n = n') : (if picked Q K g s n then (1 : EReal) else 0) = if picked Q K g' s' n' then (1 : EReal) else 0 := by rw [e, e1, e2]

theorem flushed1o (t : Fin cfg1.N) : (dat1 V c).flushed 3 t = ((cfg1.win 3).blk t).view.read (Elt Ideal) (G1o V) := by
  funext j
  show cmpOut (F := Ideal) (blkOf (cfg := cfg1) V 0 t) (blkOf (cfg := cfg1) V 1 t) (blkOf (cfg := cfg1) V 2 t) j = G1o V (((cfg1.win 3).blk t).view.emb j)
  obtain ⟨-, -, -, -, -, -, e0, e1, -⟩ := idx1 t
  have h0 : ((((cfg1.win 3).blk t).view.emb j) 0).val = (j 0).val := by
    show win1_3.index t 0 * 2048 + 1 * (j 0).val = _; omega
  have h1 : ((((cfg1.win 3).blk t).view.emb j) 1).val = t.val * 512 + (j 1).val := by
    show win1_3.index t 1 * 512 + 1 * (j 1).val = _; omega
  have hj1 : (j 1).val < 512 := (j 1).isLt
  have hj : j = ix2 (j 0 : Fin 2048) (⟨128 * ((j 1).val / 128) + (j 1).val % 128, by omega⟩ : Fin 512) := by
    funext e; fin_cases e
    · rfl
    · apply Fin.ext; show (j 1).val = 128 * ((j 1).val / 128) + (j 1).val % 128; omega
  refine ((congrArg (cmpOut (F := Ideal) (blkOf (cfg := cfg1) V 0 t) (blkOf (cfg := cfg1) V 1 t) (blkOf (cfg := cfg1) V 2 t)) hj).trans
    (cmpOut_spec (blkOf (cfg := cfg1) V 0 t) (blkOf (cfg := cfg1) V 1 t) (blkOf (cfg := cfg1) V 2 t) (qK V) (k7 V) (u8 V) (grpOf t)
      (blk1_0 V t) (blk1_1 V t) (blk1_2 V t) ⟨(j 1).val / 128, by omega⟩ (j 0) ⟨(j 1).val % 128, Nat.mod_lt _ (by omega)⟩)).trans ?_
  refine oc_congr (Fin.ext ?_) (Fin.ext h0.symm) (Fin.ext ?_)
  · show t.val * 4 + (j 1).val / 128 = ((((cfg1.win 3).blk t).view.emb j) 1).val / 128; omega
  · show (j 1).val % 128 = ((((cfg1.win 3).blk t).view.emb j) 1).val % 128; omega

theorem flushed1s (t : Fin cfg1.N) : (dat1 V c).flushed 4 t = ((cfg1.win 4).blk t).view.read (Elt Ideal) (G1s V) := by
  funext j
  show selFrom (F := Ideal) (ranks (F := Ideal) (importance (F := Ideal) (k1_pay2 (blkOf (cfg := cfg1) V 1 t)) (blkOf (cfg := cfg1) V 0 t))) j = G1s V (((cfg1.win 4).blk t).view.emb j)
  obtain ⟨-, -, -, -, -, -, -, -, e0, e1, e2⟩ := idx1 t
  have hj0 : (j 0).val < 1 := (j 0).isLt
  have h0 : ((((cfg1.win 4).blk t).view.emb j) 0).val = t.val := by
    show win1_4.index t 0 * 1 + 1 * (j 0).val = _; omega
  have h1 : ((((cfg1.win 4).blk t).view.emb j) 1).val = (j 1).val := by
    show win1_4.index t 1 * 2048 + 1 * (j 1).val = _; omega
  have h2 : ((((cfg1.win 4).blk t).view.emb j) 2).val = (j 2).val := by
    show win1_4.index t 2 * 32 + 1 * (j 2).val = _; omega
  have hj : j = ix3 (0 : Fin 1) (j 1 : Fin 2048) (j 2 : Fin 32) := by
    funext e; fin_cases e
    · apply Fin.ext; show (j 0).val = 0; omega
    · rfl
    · rfl
  refine ((congrArg (selFrom (F := Ideal) (ranks (F := Ideal) (importance (F := Ideal) (k1_pay2 (blkOf (cfg := cfg1) V 1 t)) (blkOf (cfg := cfg1) V 0 t)))) hj).trans
    (sel_spec (blkOf (cfg := cfg1) V 0 t) (blkOf (cfg := cfg1) V 1 t) (qK V) (k7 V) (grpOf t) (blk1_0 V t) (blk1_1 V t) (j 1) (j 2))).trans ?_
  exact picked_congr (Fin.ext h0.symm) (Fin.ext h1.symm) (Fin.ext h2.symm)

theorem cover1o (i : S2048x2048.Idx) : ∃ t : Fin cfg1.N, (cfg1.win 3).flush t = true ∧ i ∈ ((cfg1.win 3).blk t).view.set := by
  have hi0 : (i 0).val < 2048 := (i 0).isLt
  have hi1 : (i 1).val < 2048 := (i 1).isLt
  let t : Fin cfg1.N := ⟨(i 1).val / 512, by show _ < grid1.N; rw [N_1]; omega⟩
  have ht : t.val = (i 1).val / 512 := rfl
  refine ⟨t, flush1_3 _, ?_⟩
  obtain ⟨-, -, -, -, -, -, e0, e1, -⟩ := idx1 t
  have h := ((cfg1.win 3).blk t).view.emb_mem_set (ix2 (⟨(i 0).val, hi0⟩ : Fin 2048) (⟨(i 1).val % 512, Nat.mod_lt _ (by omega)⟩ : Fin 512))
  refine Eq.mp (congrArg (· ∈ ((cfg1.win 3).blk t).view.set) (funext fun e => Fin.ext ?_)) h
  match e with
  | ⟨0, _⟩ => show win1_3.index t 0 * 2048 + 1 * (i 0).val = (i 0).val; omega
  | ⟨1, _⟩ => show win1_3.index t 1 * 512 + 1 * ((i 1).val % 512) = (i 1).val; omega

theorem cover1s (i : S4x2048x32.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 32 := (i 2).isLt
  let t : Fin cfg1.N := ⟨(i 0).val, by show _ < grid1.N; rw [N_1]; omega⟩
  have ht : t.val = (i 0).val := rfl
  refine ⟨t, flush1_4 _, ?_⟩
  obtain ⟨-, -, -, -, -, -, -, -, e0, e1, e2⟩ := idx1 t
  have h := ((cfg1.win 4).blk t).view.emb_mem_set (ix3 (0 : Fin 1) (⟨(i 1).val, hi1⟩ : Fin 2048) (⟨(i 2).val, hi2⟩ : Fin 32))
  refine Eq.mp (congrArg (· ∈ ((cfg1.win 4).blk t).view.set) (funext fun e => Fin.ext ?_)) h
  match e with
  | ⟨0, _⟩ => show win1_4.index t 0 * 1 + 1 * 0 = (i 0).val; omega
  | ⟨1, _⟩ => show win1_4.index t 1 * 2048 + 1 * (i 1).val = (i 1).val; omega
  | ⟨2, _⟩ => show win1_4.index t 2 * 32 + 1 * (i 2).val = (i 2).val; omega

theorem arr1o : Pipeline.afterRegion (dat1 V c) V (Proc.devRef .tc main_v13_0) = G1o V :=
  (Pipeline.afterRegion_arr (dat1 V c) V winFacts1.arr_inj 3).trans ((dat1 V c).arrAt_eq_of_cover 3 (G1o V) (fun t _ => flushed1o V c t) cover1o)

theorem arr1s : Pipeline.afterRegion (dat1 V c) V (Proc.devRef .tc main_v13_1) = G1s V :=
  (Pipeline.afterRegion_arr (dat1 V c) V winFacts1.arr_inj 4).trans ((dat1 V c).arrAt_eq_of_cover 4 (G1s V) (fun t _ => flushed1s V c t) cover1s)

end Cert.Proof.Nsa

end
-- ==== Proof.Nsa.Blocks2.lean ====
/- The attention call's array over the extended reals. -/
module

public import proofs.«01_k».proof.Proof.Nsa.AttnVal
public import proofs.«01_k».proof.Proof.Nsa.Blocks1

@[expose] public section

set_option maxRecDepth 16384

noncomputable section

namespace Cert.Proof.Nsa

open Cert.KernelIdeal Cert.KernelIdeal.Gen
open Idealize.ShloMosaic Cert.Proof.Spec

/-- A head's output, from the selection's indicator and the compression branch's output. -/
def attnAt (Q : Fin 16 → Fin 2048 → Fin 128 → EReal) (K U : Fin 4 → Fin 2048 → Fin 128 → EReal) (S : Fin 4 → Fin 2048 → Fin 32 → EReal)
    (O : Fin 16 → Fin 2048 → Fin 128 → EReal) (L : Fin 16 → Fin 2048 → Fin 3 → EReal) (h : Fin 16) (s : Fin 2048) (d : Fin 128) : EReal :=
  gate L h s 0 * O h s d
    + gate L h s 1 * branch (fun t => 0 < S (grp h) s ⟨t.val / 64, by omega⟩ ∧ t.val ≤ s.val) (fs Q K h s) (fun t => U (grp h) t d)
    + gate L h s 2 * branch (winSeen s) (fs Q K h s) (fun t => U (grp h) t d)

theorem attn_spec (Q : Fin 16 → Fin 2048 → Fin 128 → EReal) (K U : Fin 4 → Fin 2048 → Fin 128 → EReal) (S : Fin 4 → Fin 2048 → Fin 32 → EReal)
    (O : Fin 16 → Fin 2048 → Fin 128 → EReal) (L : Fin 16 → Fin 2048 → Fin 3 → EReal) (h qt : Fin 16)
    (b0 : FVec Ideal S128x128 .bf16) (b1 b2 : FVec Ideal S2048x128 .bf16) (b3 : FVec Ideal S1x128x32 .f32) (b4 : FVec Ideal S128x128 .f32) (b5 : FVec Ideal S1x128x3 .f32)
    (hq : ∀ i d : Fin 128, b0 (ix2 i d) = Q h ⟨i.val + qt.val * 128, by omega⟩ d) (hk : ∀ (t : Fin 2048) (d : Fin 128), b1 (ix2 t d) = K (grp h) t d)
    (hu : ∀ (t : Fin 2048) (d : Fin 128), b2 (ix2 t d) = U (grp h) t d)
    (hs : ∀ (i : Fin 128) (n : Fin 32), b3 (ix3 0 i n) = S (grp h) ⟨i.val + qt.val * 128, by omega⟩ n)
    (ho : ∀ i d : Fin 128, b4 (ix2 i d) = O h ⟨i.val + qt.val * 128, by omega⟩ d)
    (hg : ∀ (i : Fin 128) (e : Fin 3), b5 (ix3 0 i e) = L h ⟨i.val + qt.val * 128, by omega⟩ e) (i d : Fin 128) :
    attnOut (F := Ideal) (BitVec.ofNat 32 qt.val) b0 b1 b2 b3 b4 b5 (ix2 i d) = attnAt Q K U S O L h ⟨i.val + qt.val * 128, by omega⟩ d := by
  refine (attnOut_at qt b0 b1 b2 b3 b4 b5 i d).trans ?_
  rw [hg, hg, hg, ho]
  simp only [hq, hk, hu]
  unfold attnAt gate
  refine congrArg₂ (fun x y : EReal => x + y) (congrArg₂ (fun x y : EReal => x + y) rfl (congrArg₂ (fun x y : EReal => x * y) rfl ?_)) (congrArg₂ (fun x y : EReal => x * y) rfl ?_)
  · exact branch_congr (fun t => and_congr (by rw [hs]) Iff.rfl) _ _
  · exact branch_congr (fun t => Iff.rfl) _ _

variable (V : Valuation τ sig (Elt Ideal)) (c : Dev nD)

def k14 (g : Fin 4) (s : Fin 2048) (d : Fin 128) : EReal := V (Proc.devRef .tc main_v14) (ix2 s ⟨g.val * 128 + d.val, by omega⟩)
def u15 (g : Fin 4) (s : Fin 2048) (d : Fin 128) : EReal := V (Proc.devRef .tc main_v15) (ix2 s ⟨g.val * 128 + d.val, by omega⟩)
def selK (g : Fin 4) (s : Fin 2048) (n : Fin 32) : EReal := V (Proc.devRef .tc main_v13_1) (ix3 g s n)
def ocK (h : Fin 16) (s : Fin 2048) (d : Fin 128) : EReal := V (Proc.devRef .tc main_v13_0) (ix2 s ⟨h.val * 128 + d.val, by omega⟩)
def glK (h : Fin 16) (s : Fin 2048) (i : Fin 3) : EReal := V (Proc.devRef .tc main_v11) (ix3 h s i)

theorem idx2 : ∀ t : Fin cfg2.N, (win2_0.index t 0 = t.val % 16 ∧ win2_0.index t 1 = t.val / 16) ∧ (win2_1.index t 0 = 0 ∧ win2_1.index t 1 = t.val / 64)
    ∧ (win2_2.index t 0 = 0 ∧ win2_2.index t 1 = t.val / 64) ∧ (win2_3.index t 0 = t.val / 64 ∧ win2_3.index t 1 = t.val % 16 ∧ win2_3.index t 2 = 0)
    ∧ (win2_4.index t 0 = t.val % 16 ∧ win2_4.index t 1 = t.val / 16) ∧ (win2_5.index t 0 = t.val / 16 ∧ win2_5.index t 1 = t.val % 16 ∧ win2_5.index t 2 = 0)
    ∧ (win2_6.index t 0 = t.val % 16 ∧ win2_6.index t 1 = t.val / 16) :=
  (by decide +kernel : ∀ t : Fin grid2.N, _)

theorem coord2 : ∀ t : Fin cfg2.N, (grid2.coords t 1).val = t.val % 16 := (by decide +kernel : ∀ t : Fin grid2.N, _)

/-- A point's head and query tile. -/
def hdOf (t : Fin cfg2.N) : Fin 16 := ⟨t.val / 16, by have := lt_of_lt_of_eq t.isLt N_2; omega⟩
def qtOf (t : Fin cfg2.N) : Fin 16 := ⟨t.val % 16, by omega⟩

theorem blk2_0 (t : Fin cfg2.N) (i d : Fin 128) : blkOf (cfg := cfg2) V 0 t (ix2 i d) = qK V (hdOf t) ⟨i.val + (qtOf t).val * 128, by omega⟩ d := by
  obtain ⟨⟨e0, e1⟩, -⟩ := idx2 t
  refine congrArg (V (Proc.devRef .tc main_v12)) (funext fun e => Fin.ext ?_)
  match e with
  | ⟨0, _⟩ => show win2_0.index t 0 * 128 + 1 * i.val = i.val + t.val % 16 * 128; omega
  | ⟨1, _⟩ => show win2_0.index t 1 * 128 + 1 * d.val = t.val / 16 * 128 + d.val; omega

theorem blk2_1 (t : Fin cfg2.N) (s : Fin 2048) (d : Fin 128) : blkOf (cfg := cfg2) V 1 t (ix2 s d) = k14 V (grp (hdOf t)) s d := by
  obtain ⟨-, ⟨e0, e1⟩, -⟩ := idx2 t
  refine congrArg (V (Proc.devRef .tc main_v14)) (funext fun e => Fin.ext ?_)
  match e with
  | ⟨0, _⟩ => show win2_1.index t 0 * 2048 + 1 * s.val = s.val; omega
  | ⟨1, _⟩ => show win2_1.index t 1 * 128 + 1 * d.val = t.val / 16 / 4 * 128 + d.val; omega

theorem blk2_2 (t : Fin cfg2.N) (s : Fin 2048) (d : Fin 128) : blkOf (cfg := cfg2) V 2 t (ix2 s d) = u15 V (grp (hdOf t)) s d := by
  obtain ⟨-, -, ⟨e0, e1⟩, -⟩ := idx2 t
  refine congrArg (V (Proc.devRef .tc main_v15)) (funext fun e => Fin.ext ?_)
  match e with
  | ⟨0, _⟩ => show win2_2.index t 0 * 2048 + 1 * s.val = s.val; omega
  | ⟨1, _⟩ => show win2_2.index t 1 * 128 + 1 * d.val = t.val / 16 / 4 * 128 + d.val; omega

theorem blk2_3 (t : Fin cfg2.N) (i : Fin 128) (n : Fin 32) :
    blkOf (cfg := cfg2) V 3 t (ix3 (0 : Fin 1) i n) = selK V (grp (hdOf t)) ⟨i.val + (qtOf t).val * 128, by omega⟩ n := by
  obtain ⟨-, -, -, ⟨e0, e1, e2⟩, -⟩ := idx2 t
  refine congrArg (V (Proc.devRef .tc main_v13_1)) (funext fun e => Fin.ext ?_)
  match e with
  | ⟨0, _⟩ => show win2_3.index t 0 * 1 + 1 * 0 = t.val / 16 / 4; omega
  | ⟨1, _⟩ => show win2_3.index t 1 * 128 + 1 * i.val = i.val + t.val % 16 * 128; omega
  | ⟨2, _⟩ => show win2_3.index t 2 * 32 + 1 * n.val = n.val; omega

theorem blk2_4 (t : Fin cfg2.N) (i d : Fin 128) : blkOf (cfg := cfg2) V 4 t (ix2 i d) = ocK V (hdOf t) ⟨i.val + (qtOf t).val * 128, by omega⟩ d := by
  obtain ⟨-, -, -, -, ⟨e0, e1⟩, -⟩ := idx2 t
  refine congrArg (V (Proc.devRef .tc main_v13_0)) (funext fun e => Fin.ext ?_)
  match e with
  | ⟨0, _⟩ => show win2_4.index t 0 * 128 + 1 * i.val = i.val + t.val % 16 * 128; omega
  | ⟨1, _⟩ => show win2_4.index t 1 * 128 + 1 * d.val = t.val / 16 * 128 + d.val; omega

theorem blk2_5 (t : Fin cfg2.N) (i : Fin 128) (n : Fin 3) :
    blkOf (cfg := cfg2) V 5 t (ix3 (0 : Fin 1) i n) = glK V (hdOf t) ⟨i.val + (qtOf t).val * 128, by omega⟩ n := by
  obtain ⟨-, -, -, -, -, ⟨e0, e1, e2⟩, -⟩ := idx2 t
  refine congrArg (V (Proc.devRef .tc main_v11)) (funext fun e => Fin.ext ?_)
  match e with
  | ⟨0, _⟩ => show win2_5.index t 0 * 1 + 1 * 0 = t.val / 16; omega
  | ⟨1, _⟩ => show win2_5.index t 1 * 128 + 1 * i.val = i.val + t.val % 16 * 128; omega
  | ⟨2, _⟩ => show win2_5.index t 2 * 3 + 1 * n.val = n.val; omega

/-- The attention's array. -/
def G2 : Vec Ideal S2048x2048 .bf16 := fun i =>
  attnAt (qK V) (k14 V) (u15 V) (selK V) (ocK V) (glK V) ⟨(i 1).val / 128, by have : (i 1).val < 2048 := (i 1).isLt; omega⟩ (i 0) ⟨(i 1).val % 128, Nat.mod_lt _ (by omega)⟩

theorem attnAt_congr {Q : Fin 16 → Fin 2048 → Fin 128 → EReal} {K U : Fin 4 → Fin 2048 → Fin 128 → EReal} {S : Fin 4 → Fin 2048 → Fin 32 → EReal}
    {O : Fin 16 → Fin 2048 → Fin 128 → EReal} {L : Fin 16 → Fin 2048 → Fin 3 → EReal} {h h' : Fin 16} {s s' : Fin 2048} {d d' : Fin 128}
    (e : h = h') (e1 : s = s') (e2 : d = d') : attnAt Q K U S O L h s d = attnAt Q K U S O L h' s' d' := by rw [e, e1, e2]

theorem flushed2 (t : Fin cfg2.N) : (dat2 V c).flushed 6 t = ((cfg2.win 6).blk t).view.read (Elt Ideal) (G2 V) := by
  funext j
  show attnOut (F := Ideal) (BitVec.ofNat 32 (grid2.coords t 1).val) (blkOf (cfg := cfg2) V 0 t) (blkOf (cfg := cfg2) V 1 t) (blkOf (cfg := cfg2) V 2 t)
    (blkOf (cfg := cfg2) V 3 t) (blkOf (cfg := cfg2) V 4 t) (blkOf (cfg := cfg2) V 5 t) j = G2 V (((cfg2.win 6).blk t).view.emb j)
  rw [coord2 t]
  obtain ⟨-, -, -, -, -, -, e0, e1⟩ := idx2 t
  have h0 : ((((cfg2.win 6).blk t).view.emb j) 0).val = t.val % 16 * 128 + (j 0).val := by
    show win2_6.index t 0 * 128 + 1 * (j 0).val = _; omega
  have h1 : ((((cfg2.win 6).blk t).view.emb j) 1).val = t.val / 16 * 128 + (j 1).val := by
    show win2_6.index t 1 * 128 + 1 * (j 1).val = _; omega
  have hj1 : (j 1).val < 128 := (j 1).isLt
  have hj : j = ix2 (j 0 : Fin 128) (j 1 : Fin 128) := by funext e; fin_cases e <;> rfl
  refine ((congrArg (attnOut (F := Ideal) (BitVec.ofNat 32 (t.val % 16)) (blkOf (cfg := cfg2) V 0 t) (blkOf (cfg := cfg2) V 1 t) (blkOf (cfg := cfg2) V 2 t)
    (blkOf (cfg := cfg2) V 3 t) (blkOf (cfg := cfg2) V 4 t) (blkOf (cfg := cfg2) V 5 t)) hj).trans
    (attn_spec (qK V) (k14 V) (u15 V) (selK V) (ocK V) (glK V) (hdOf t) (qtOf t) (blkOf (cfg := cfg2) V 0 t) (blkOf (cfg := cfg2) V 1 t) (blkOf (cfg := cfg2) V 2 t)
      (blkOf (cfg := cfg2) V 3 t) (blkOf (cfg := cfg2) V 4 t) (blkOf (cfg := cfg2) V 5 t)
      (blk2_0 V t) (blk2_1 V t) (blk2_2 V t) (blk2_3 V t) (blk2_4 V t) (blk2_5 V t) (j 0) (j 1))).trans ?_
  refine attnAt_congr (Fin.ext ?_) (Fin.ext ?_) (Fin.ext ?_)
  · show t.val / 16 = ((((cfg2.win 6).blk t).view.emb j) 1).val / 128; omega
  · show (j 0).val + t.val % 16 * 128 = ((((cfg2.win 6).blk t).view.emb j) 0).val; omega
  · show (j 1).val = ((((cfg2.win 6).blk t).view.emb j) 1).val % 128; omega

theorem cover2 (i : S2048x2048.Idx) : ∃ t : Fin cfg2.N, (cfg2.win 6).flush t = true ∧ i ∈ ((cfg2.win 6).blk t).view.set := by
  have hi0 : (i 0).val < 2048 := (i 0).isLt
  have hi1 : (i 1).val < 2048 := (i 1).isLt
  let t : Fin cfg2.N := ⟨(i 1).val / 128 * 16 + (i 0).val / 128, by show _ < grid2.N; rw [N_2]; omega⟩
  have ht : t.val = (i 1).val / 128 * 16 + (i 0).val / 128 := rfl
  refine ⟨t, flush2_6 _, ?_⟩
  obtain ⟨-, -, -, -, -, -, e0, e1⟩ := idx2 t
  have h := ((cfg2.win 6).blk t).view.emb_mem_set (ix2 (⟨(i 0).val % 128, Nat.mod_lt _ (by omega)⟩ : Fin 128) (⟨(i 1).val % 128, Nat.mod_lt _ (by omega)⟩ : Fin 128))
  refine Eq.mp (congrArg (· ∈ ((cfg2.win 6).blk t).view.set) (funext fun e => Fin.ext ?_)) h
  match e with
  | ⟨0, _⟩ => show win2_6.index t 0 * 128 + 1 * ((i 0).val % 128) = (i 0).val; omega
  | ⟨1, _⟩ => show win2_6.index t 1 * 128 + 1 * ((i 1).val % 128) = (i 1).val; omega

theorem arr2 : Pipeline.afterRegion (dat2 V c) V (Proc.devRef .tc main_v16) = G2 V :=
  (Pipeline.afterRegion_arr (dat2 V c) V winFacts2.arr_inj 6).trans ((dat2 V c).arrAt_eq_of_cover 6 (G2 V) (fun t _ => flushed2 V c t) cover2)

end Cert.Proof.Nsa

end
-- ==== Proof.Nsa.Whole.lean ====
/- The kernel's result is the layer, and so the reference's. -/
module

public import proofs.«01_k».proof.Proof.Nsa.Host
public import proofs.«01_k».proof.Proof.Nsa.Blocks
public import proofs.«01_k».proof.Proof.Nsa.Blocks2

@[expose] public section

set_option maxRecDepth 16384

noncomputable section

namespace Cert.Proof.Nsa

open Cert.KernelIdeal Cert.KernelIdeal.Gen
open Idealize.ShloMosaic Idealize.ShloMosaic.TcCoe Cert.Proof.Spec Cert.Proof.Words
open Idealize.ShloMosaic.Pipeline (afterRegion)

/-! ## The arguments by their indices -/

section
variable (V : Valuation τ sig (Elt Ideal))

def aX (s k : Fin 2048) : EReal := (V (Proc.devRef .tc main_arg0) : S1x2048x2048.Idx → EReal) (ix3 0 s k)
def aQ (k c : Fin 2048) : EReal := (V (Proc.devRef .tc main_arg1) : S2048x2048.Idx → EReal) (ix2 k c)
def aK (k : Fin 2048) (c : Fin 512) : EReal := (V (Proc.devRef .tc main_arg2) : S2048x512.Idx → EReal) (ix2 k c)
def aV (k : Fin 2048) (c : Fin 512) : EReal := (V (Proc.devRef .tc main_arg3) : S2048x512.Idx → EReal) (ix2 k c)
def aG (k : Fin 2048) (c : Fin 48) : EReal := (V (Proc.devRef .tc main_arg4) : S2048x48.Idx → EReal) (ix2 k c)
def aO (k c : Fin 2048) : EReal := (V (Proc.devRef .tc main_arg5) : S2048x2048.Idx → EReal) (ix2 k c)

def pq (h : Fin 16) (s : Fin 2048) (d : Fin 128) : EReal := proj (aX V) (aQ V) s ⟨h.val * 128 + d.val, by omega⟩
def pk (g : Fin 4) (s : Fin 2048) (d : Fin 128) : EReal := proj (aX V) (aK V) s ⟨g.val * 128 + d.val, by omega⟩
def pv (g : Fin 4) (s : Fin 2048) (d : Fin 128) : EReal := proj (aX V) (aV V) s ⟨g.val * 128 + d.val, by omega⟩
def pg (h : Fin 16) (s : Fin 2048) (i : Fin 3) : EReal := proj (aX V) (aG V) s ⟨h.val * 3 + i.val, by omega⟩

/-! ## Before and after the projection -/

theorem x3_at (s k : Fin 2048) : x3 (StableHlo.after (hostOps0 (F := Ideal)) V) s k = aX V s k := by
  unfold x3; rw [v3_eq]; exact flat_at _ s k

theorem proj0_q (s j : Fin 2048) : proj (x3 (StableHlo.after (hostOps0 (F := Ideal)) V)) (w4 (StableHlo.after (hostOps0 (F := Ideal)) V)) s (⟨j.val, by omega⟩ : Fin 3200) = proj (aX V) (aQ V) s j := by
  refine Finset.sum_congr rfl fun k _ => congrArg₂ (fun x y : EReal => x * y) (x3_at V s k) ?_
  unfold w4; rw [v4_eq]; exact cat0 _ _ _ _ _ concatenates_S2048x2048_S2048x512_S2048x512_S2048x48_S2048x80_S2048x3200_d1 k j

theorem proj0_k (s : Fin 2048) (j : Fin 512) : proj (x3 (StableHlo.after (hostOps0 (F := Ideal)) V)) (w4 (StableHlo.after (hostOps0 (F := Ideal)) V)) s (⟨2048 + j.val, by omega⟩ : Fin 3200) = proj (aX V) (aK V) s j := by
  refine Finset.sum_congr rfl fun k _ => congrArg₂ (fun x y : EReal => x * y) (x3_at V s k) ?_
  unfold w4; rw [v4_eq]; exact cat1 _ _ _ _ _ concatenates_S2048x2048_S2048x512_S2048x512_S2048x48_S2048x80_S2048x3200_d1 k j

theorem proj0_v (s : Fin 2048) (j : Fin 512) : proj (x3 (StableHlo.after (hostOps0 (F := Ideal)) V)) (w4 (StableHlo.after (hostOps0 (F := Ideal)) V)) s (⟨2560 + j.val, by omega⟩ : Fin 3200) = proj (aX V) (aV V) s j := by
  refine Finset.sum_congr rfl fun k _ => congrArg₂ (fun x y : EReal => x * y) (x3_at V s k) ?_
  unfold w4; rw [v4_eq]; exact cat2 _ _ _ _ _ concatenates_S2048x2048_S2048x512_S2048x512_S2048x48_S2048x80_S2048x3200_d1 k j

theorem proj0_g (s : Fin 2048) (j : Fin 48) : proj (x3 (StableHlo.after (hostOps0 (F := Ideal)) V)) (w4 (StableHlo.after (hostOps0 (F := Ideal)) V)) s (⟨3072 + j.val, by omega⟩ : Fin 3200) = proj (aX V) (aG V) s j := by
  refine Finset.sum_congr rfl fun k _ => congrArg₂ (fun x y : EReal => x * y) (x3_at V s k) ?_
  unfold w4; rw [v4_eq]; exact cat3 _ _ _ _ _ concatenates_S2048x2048_S2048x512_S2048x512_S2048x48_S2048x80_S2048x3200_d1 k j
end

variable (m : (ℓ : Loc nD τ sig) → Buf (Elt Ideal) ℓ) (c : Dev nD)

/-- The projection's array. -/
theorem v5_at (s : Fin 2048) (j : Fin 3200) : (W2 m c (Proc.devRef .tc main_v5) : FVec Ideal S2048x3200 .f32) (ix2 s j) = proj (x3 (W1 m c)) (w4 (W1 m c)) s j :=
  congrFun (arr0 (W1 m c) c) (ix2 s j)

theorem q3 : qK (W3 m c) = pq (V0 m c) := by
  funext h s d
  unfold qK W3; rw [v12_eq]
  exact (cols_q _ s ⟨h.val * 128 + d.val, by omega⟩).trans ((v5_at m c s _).trans (proj0_q (V0 m c) s ⟨h.val * 128 + d.val, by omega⟩))

theorem k3 : k7 (W3 m c) = pk (V0 m c) := by
  funext g s d
  unfold k7 W3; rw [v7_eq]
  exact (cols_k _ s ⟨g.val * 128 + d.val, by omega⟩).trans ((v5_at m c s _).trans (proj0_k (V0 m c) s ⟨g.val * 128 + d.val, by omega⟩))

theorem u3 : u8 (W3 m c) = pv (V0 m c) := by
  funext g s d
  unfold u8 W3; rw [v8_eq]
  exact (cols_v _ s ⟨g.val * 128 + d.val, by omega⟩).trans ((v5_at m c s _).trans (proj0_v (V0 m c) s ⟨g.val * 128 + d.val, by omega⟩))

theorem g3 : glK (W3 m c) = pg (V0 m c) := by
  funext h s i
  unfold glK W3; rw [v11_eq]
  exact (cols_g _ s h i).trans ((v5_at m c s _).trans (proj0_g (V0 m c) s ⟨h.val * 3 + i.val, by omega⟩))

/-! ## The compression call, and what reaches the attention call -/

theorem keep4 (r : Ref sig .tc) (g1 : ∀ w, Pipeline.arrRef cfg1.spec w = r → (cfg1.win w).isOut = false) :
    W4 m c (Proc.devRef .tc r) = W3 m c (Proc.devRef .tc r) :=
  Pipeline.afterRegion_keeps (dat1 (W3 m c) c) (W3 m c) winFacts1.arr_inj (fun _ => rfl) r g1

theorem keep5 (r : Ref sig .tc) (h2 : r ∉ hostOps2_W) : W5 m c (Proc.devRef .tc r) = W4 m c (Proc.devRef .tc r) :=
  StableHlo.after_of_writes_sub hostOps2 _ hostOps2_writes h2

theorem q5 : qK (W5 m c) = pq (V0 m c) := by
  rw [← q3]; funext h s d; unfold qK
  rw [keep5 m c main_v12 (by decide), keep4 m c main_v12 (by decide)]

theorem g5 : glK (W5 m c) = pg (V0 m c) := by
  rw [← g3]; funext h s i; unfold glK
  rw [keep5 m c main_v11 (by decide), keep4 m c main_v11 (by decide)]

theorem k5 : k14 (W5 m c) = pk (V0 m c) := by
  rw [← k3]; funext g s d; unfold k14 k7 W5
  rw [v14_eq, keep4 m c main_v7 (by decide)]; rfl

theorem u5 : u15 (W5 m c) = pv (V0 m c) := by
  rw [← u3]; funext g s d; unfold u15 u8 W5
  rw [v15_eq, keep4 m c main_v8 (by decide)]; rfl

theorem s5 (g : Fin 4) (s : Fin 2048) (n : Fin 32) : selK (W5 m c) g s n = if picked (pq (V0 m c)) (pk (V0 m c)) g s n then 1 else 0 := by
  unfold selK
  rw [keep5 m c main_v13_1 (by decide), ← q3, ← k3]
  exact congrFun (arr1s (W3 m c) c) (ix3 g s n)

theorem o5 (h : Fin 16) (s : Fin 2048) (d : Fin 128) : ocK (W5 m c) h s d = oc (pq (V0 m c)) (pk (V0 m c)) (pv (V0 m c)) h s d := by
  unfold ocK
  rw [keep5 m c main_v13_0 (by decide), ← q3, ← k3, ← u3]
  refine (congrFun (arr1o (W3 m c) c) (ix2 s ⟨h.val * 128 + d.val, by omega⟩)).trans ?_
  exact oc_congr (Fin.ext (by show (h.val * 128 + d.val) / 128 = h.val; omega)) rfl (Fin.ext (by show (h.val * 128 + d.val) % 128 = d.val; omega))

/-! ## The attention call and the output projection -/

theorem v16_at (s j : Fin 2048) : x16 (W7 m c) s j
    = o (pq (V0 m c)) (pk (V0 m c)) (pv (V0 m c)) (pg (V0 m c)) ⟨j.val / 128, by omega⟩ s ⟨j.val % 128, by omega⟩ := by
  have e : W7 m c (Proc.devRef .tc main_v16) = W6 m c (Proc.devRef .tc main_v16) := StableHlo.after_of_writes_sub hostOps3 _ hostOps3_writes (by decide)
  unfold x16
  rw [e]
  refine (congrFun (arr2 (W5 m c) c) (ix2 s j)).trans ?_
  show attnAt (qK (W5 m c)) (k14 (W5 m c)) (u15 (W5 m c)) (selK (W5 m c)) (ocK (W5 m c)) (glK (W5 m c)) ⟨j.val / 128, by omega⟩ s ⟨j.val % 128, by omega⟩ = _
  unfold attnAt o
  rw [q5, k5, u5, g5, o5]
  refine congrArg₂ (fun x y : EReal => x + y) (congrArg₂ (fun x y : EReal => x + y) rfl (congrArg₂ (fun x y : EReal => x * y) rfl ?_)) rfl
  exact branch_congr (fun t => and_congr (by rw [s5]; exact pos_ind _) Iff.rfl) _ _

theorem w17_at (k j : Fin 2048) : w17 (W7 m c) k j = aO (V0 m c) k j := by
  have e : W6 m c (Proc.devRef .tc main_arg5) = V0 m c (Proc.devRef .tc main_arg5) :=
    (Pipeline.afterRegion_keeps (dat2 (W5 m c) c) (W5 m c) winFacts2.arr_inj (fun _ => rfl) main_arg5 (by decide)).trans <|
    (keep5 m c main_arg5 (by decide)).trans <| (keep4 m c main_arg5 (by decide)).trans <|
    (StableHlo.after_of_writes_sub hostOps1 _ hostOps1_writes (by decide)).trans <|
    (Pipeline.afterRegion_keeps (dat0 (W1 m c) c) (W1 m c) winFacts0.arr_inj (fun _ => rfl) main_arg5 (by decide)).trans <|
    StableHlo.after_of_writes_sub hostOps0 _ hostOps0_writes (by decide)
  unfold w17 W7; rw [v17_eq, e]; rfl

/-- The kernel's result at an index. -/
theorem v19_at (s j : Fin 2048) : (W9 m c (Proc.devRef .tc main_v19) : FVec Ideal S1x2048x2048 .f32) (ix3 0 s j)
    = out (pq (V0 m c)) (pk (V0 m c)) (pv (V0 m c)) (pg (V0 m c)) (aO (V0 m c)) s j := by
  unfold W9; rw [v19_eq, batch_at]
  refine (congrFun (arr3 (W7 m c) c) (ix2 s j)).trans ?_
  show proj (x16 (W7 m c)) (w17 (W7 m c)) s j = _
  unfold proj out
  exact Finset.sum_congr rfl fun k _ => congrArg₂ (fun x y : EReal => x * y) (v16_at m c s k) (w17_at m c k j)

end Cert.Proof.Nsa

end
-- ==== Proof.Nsa.Ref.lean ====
/- The reference's terms at an index. -/
module

public import proofs.«01_k».proof.Proof.Nsa.Words
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Cert.Proof.Soft Cert.Proof.Spec Cert.Proof.Words

variable (V : Valuation τ sig (Elt Ideal))

/-- The arguments by their indices. -/
def X (s k : Fin 2048) : EReal := (V (Proc.devRef .tc main_arg0) : S1x2048x2048.Idx → EReal) (ix3 0 s k)
def Wq (k c : Fin 2048) : EReal := (V (Proc.devRef .tc main_arg1) : S2048x2048.Idx → EReal) (ix2 k c)
def Wk (k : Fin 2048) (c : Fin 512) : EReal := (V (Proc.devRef .tc main_arg2) : S2048x512.Idx → EReal) (ix2 k c)
def Wv (k : Fin 2048) (c : Fin 512) : EReal := (V (Proc.devRef .tc main_arg3) : S2048x512.Idx → EReal) (ix2 k c)
def Wg (k : Fin 2048) (c : Fin 48) : EReal := (V (Proc.devRef .tc main_arg4) : S2048x48.Idx → EReal) (ix2 k c)
def Wo (k c : Fin 2048) : EReal := (V (Proc.devRef .tc main_arg5) : S2048x2048.Idx → EReal) (ix2 k c)

def q (h : Fin 16) (s : Fin 2048) (d : Fin 128) : EReal := proj (X V) (Wq V) s ⟨h.val * 128 + d.val, by omega⟩
def k (g : Fin 4) (s : Fin 2048) (d : Fin 128) : EReal := proj (X V) (Wk V) s ⟨g.val * 128 + d.val, by omega⟩
def v (g : Fin 4) (s : Fin 2048) (d : Fin 128) : EReal := proj (X V) (Wv V) s ⟨g.val * 128 + d.val, by omega⟩
def gl (h : Fin 16) (s : Fin 2048) (i : Fin 3) : EReal := proj (X V) (Wg V) s ⟨h.val * 3 + i.val, by omega⟩

theorem v2_at (h : Fin 16) (s : Fin 2048) (d : Fin 128) : res_main_v2 V (ix4 0 h s d) = q V h s d := by
  unfold q proj X Wq
  pointwise [res_main_v2]

theorem v5_at (h : Fin 4) (s : Fin 2048) (d : Fin 128) : res_main_v5 V (ix4 0 h s d) = k V h s d := by
  unfold k proj X Wk
  pointwise [res_main_v5]

theorem v8_at (h : Fin 4) (s : Fin 2048) (d : Fin 128) : res_main_v8 V (ix4 0 h s d) = v V h s d := by
  unfold v proj X Wv
  pointwise [res_main_v8]

theorem v157_at (h : Fin 16) (s : Fin 2048) (i : Fin 3) : res_main_v157 V (ix4 0 h s i) = gate (gl V) h s i := by
  unfold gate gl proj X Wg
  pointwise [res_main_v157]

theorem v34_at (s : Fin 2048) (n : Fin 32) : res_main_v34 V (ix4 0 0 s n) = BitVec.ofBool (decide (cseen s n)) := by
  pointwise [res_main_v34, res_main_v21]
  exact cseen_word s n

theorem v38_at (h : Fin 16) (s : Fin 2048) (n : Fin 32) : res_main_v38 V (ix4 0 h s n) = seen (cseen s n) (cs (q V) (k V) h s n) := by
  pointwise [res_main_v38, v34_at, v2_at, v5_at]
  unfold seen cs mean scale
  congr 1

theorem v40_at (h : Fin 16) (s : Fin 2048) : res_main_v40 V (ix4 0 h s 0) = cm (q V) (k V) h s := by
  pointwise [res_main_v40, v38_at]
  refine (Shape.ReducesTo.fold_fiber_r4_a3 reducesTo_S1x16x2048x32_S1x16x2048_d3 (ix3 0 h s) (max : EReal → EReal → EReal) _ _).trans ?_
  refine (Finset.fold_congr (fun x _ => v38_at V h s x)).trans ?_
  rw [ofBits_bot]; rfl

theorem v49_at (h : Fin 16) (s : Fin 2048) (n : Fin 32) : res_main_v49 V (ix4 0 h s n) = cw (q V) (k V) h s n := by
  pointwise [res_main_v49, v38_at, v34_at, v40_at]
  rw [uitofp_ofBool]
  unfold cw wt away
  congr 3
  · rw [ofBits_bot]; congr 1; exact ofBits_nil

theorem v51_at (h : Fin 16) (s : Fin 2048) : res_main_v51 V (ix4 0 h s 0) = cden (q V) (k V) h s := by
  pointwise [res_main_v51, v49_at]
  rfl

theorem v64_at (g : Fin 4) (s : Fin 2048) (n : Fin 32) : res_main_v64 V (ix4 0 g s n) = imp (q V) (k V) g s n := by
  pointwise [res_main_v64, v49_at, v51_at]
  rfl

theorem v82_at (s t : Fin 2048) : res_main_v82 V (ix2 s t) = BitVec.ofBool (decide (t.val ≤ s.val)) := by
  pointwise [res_main_v82, res_main_v21]
  exact sge_word s.isLt t.isLt

theorem v125_at (s t : Fin 2048) : res_main_v125 V (ix4 0 0 s t) = BitVec.ofBool (decide (winSeen s t)) := by
  pointwise [res_main_v125, v82_at, res_main_v21]
  exact win_word s.isLt t.isLt

theorem v91_at (h : Fin 16) (s : Fin 2048) (d : Fin 128) : res_main_v91 V (ix4 0 h s d) = v V (grp h) s d := by
  pointwise [res_main_v91, v8_at]
  rfl

theorem v94_at (h : Fin 16) (s t : Fin 2048) : res_main_v94 V (ix4 0 h s t) = fs (q V) (k V) h s t := by
  pointwise [res_main_v94, v2_at, v5_at]
  rfl

end Cert.Proof.Ref

end
-- ==== Proof.Nsa.RefSel.lean ====
/- The reference's selection branch. -/
module

public import proofs.«01_k».proof.Proof.Nsa.Ref
public import Idealize.ShloMosaic.Lib.SortFacts

@[expose] public section

set_option maxRecDepth 16384

noncomputable section

namespace Cert.Proof.Ref

open Cert.ReferenceIdeal Cert.ReferenceIdeal.Gen Cert.ReferenceIdeal.Value
open Idealize.ShloMosaic Cert.Proof.Soft Cert.Proof.Spec Idealize.ShloMosaic.WordCmp Cert.Proof.Words Cert.Proof.Rank

variable (V : Valuation τ sig (Elt Ideal))

/-- The places of the greatest. -/
theorem topk_gen (x : S1x4x2048x32.Idx → EReal) (g : Fin 4) (s : Fin 2048) (i : Fin 16) :
    (Host.topK (s := S1x4x2048x32) S1x4x2048x16 3 (FloatOps.cmpfTotal (F := Ideal) (φ := .f32) .gt) x sliceFits_S1x4x2048x32_S1x4x2048x16).2 (ix4 0 g s i)
      = BitVec.ofNat 32 (sortedFrom (fun a b => decide (x (ix4 0 g s b) < x (ix4 0 g s a))) (i.castLE (by decide : 16 ≤ 32))).val := by
  have hA : ∀ (J : S1x4x2048x32.Idx) (y : Fin 32), ((J.along 3 y) 3).val = y.val := fun J y => congrArg Fin.val (Function.update_self (β := fun a : Fin 4 => Fin (S1x4x2048x32.size a)) (3 : Fin 4) y J)
  have hJ : ∀ (J : S1x4x2048x32.Idx) (y : Fin 32), J = ix4 0 g s (i.castLE (by decide : 16 ≤ 32)) → J.along 3 y = ix4 0 g s y := by
    rintro _ y rfl; funext e; fin_cases e <;> rfl
  have hF : ∀ J : S1x4x2048x32.Idx, J = ix4 0 g s (i.castLE (by decide : 16 ≤ 32)) →
      (fun k k' : Fin 32 => FloatOps.cmpfTotal (F := Ideal) (φ := .f32) .gt (x (J.along 3 k)) (x (J.along 3 k')) == 1#1) = fun a b => decide (x (ix4 0 g s b) < x (ix4 0 g s a)) := by
    intro J h
    funext a b
    rw [hJ J a h, hJ J b h]
    show (BitVec.ofBool (decide (x (ix4 0 g s b) < x (ix4 0 g s a))) == 1#1) = _
    generalize decide (x (ix4 0 g s b) < x (ix4 0 g s a)) = c
    revert c; decide
  have h3 : ∀ J : S1x4x2048x32.Idx, J = ix4 0 g s (i.castLE (by decide : 16 ≤ 32)) → (J 3 : Fin 32) = i.castLE (by decide : 16 ≤ 32) := by
    rintro _ rfl; rfl
  have key : ∀ J : S1x4x2048x32.Idx, J = ix4 0 g s (i.castLE (by decide : 16 ≤ 32)) →
      BitVec.ofNat 32 ((J.along 3 (sortedFrom (n := 32) (fun k k' : Fin 32 => FloatOps.cmpfTotal (F := Ideal) (φ := .f32) .gt (x (J.along 3 k)) (x (J.along 3 k')) == 1#1) (J 3))) 3).val
        = BitVec.ofNat 32 (sortedFrom (fun a b => decide (x (ix4 0 g s b) < x (ix4 0 g s a))) (i.castLE (by decide : 16 ≤ 32))).val := by
    intro J h
    rw [hA]
    have h1 := h3 J h
    have h2 := hF J h
    generalize (fun k k' : Fin 32 => FloatOps.cmpfTotal (F := Ideal) (φ := .f32) .gt (x (J.along 3 k)) (x (J.along 3 k')) == 1#1) = P at *
    generalize (J 3 : Fin 32) = z at *
    rw [h1, h2]
  unfold Host.topK Host.sort2
  simp only [dif_pos (show 3 < S1x4x2048x32.rank by decide), extractStridedSlice, iotaInDim]
  refine key _ ?_
  funext e
  fin_cases e <;> (apply Fin.ext; simp [ix4])

theorem topk_at (g : Fin 4) (s : Fin 2048) (i : Fin 16) :
    (Host.topK (s := S1x4x2048x32) S1x4x2048x16 3 (FloatOps.cmpfTotal (F := Ideal) (φ := .f32) .gt) (res_main_v64 V) sliceFits_S1x4x2048x32_S1x4x2048x16).2 (ix4 0 g s i)
      = BitVec.ofNat 32 (sortedFrom (fun a b => decide (imp (q V) (k V) g s b < imp (q V) (k V) g s a)) (i.castLE (by decide : 16 ≤ 32))).val := by
  rw [topk_gen]
  simp only [v64_at]

/-- The block a query lies in. -/
theorem own_word : ∀ s : Fin 2048,
    Scalar.select
      (IntOp.andi
        (IntOp.cmpi CmpIPredicate.ne (if BitVec.ofNat 32 s.val = 0 then (0 : BitVec 32) else if (BitVec.ofNat 32 s.val).msb = true then -1 else 1)
          (if 64#32 = 0 then (0 : BitVec 32) else if BitVec.msb 64#32 = true then -1 else 1))
        (IntOp.cmpi CmpIPredicate.ne (IntOp.remsi ArithUnit.host (BitVec.ofNat 32 s.val) 64#32) 0#32))
      (IntOp.subi (IntOp.divsi ArithUnit.host (BitVec.ofNat 32 s.val) 64#32) 1#32)
      (IntOp.divsi ArithUnit.host (BitVec.ofNat 32 s.val) 64#32) = BitVec.ofNat 32 (s.val / 64) := by
  decide +kernel

theorem v87_at (h : Fin 16) (s t : Fin 2048) : res_main_v87 V (ix4 0 h s t) = BitVec.ofBool (decide (selSeen (q V) (k V) (grp h) s t)) := by
  have hT := topk_at V
  pointwise [res_main_v87, v82_at, res_main_v21, res_main_call3_v0, res_main_call3_v2]
  have key : ∀ w, w = BitVec.ofNat 32 (s.val / 64) →
      IntOp.andi (IntOp.ori
        (BitVec.ofBool (decide (0 < (∑ x : Fin 16, FloatOps.uitofp (F := Ideal) .f32 (IntOp.cmpi .eq
          ((Host.topK (s := S1x4x2048x32) S1x4x2048x16 3 (FloatOps.cmpfTotal (F := Ideal) (φ := .f32) .gt) (res_main_v64 V) sliceFits_S1x4x2048x32_S1x4x2048x16).2 (ix4 0 (grp h) s x))
          (BitVec.ofNat 32 (t.val / 64))) : EReal))))
        (BitVec.ofBool (decide (0 < (FloatOps.uitofp (F := Ideal) .f32 (IntOp.cmpi .eq w (BitVec.ofNat 32 (t.val / 64))) : EReal)))))
        (BitVec.ofBool (decide (t.val ≤ s.val))) = BitVec.ofBool (decide (selSeen (q V) (k V) (grp h) s t)) := by
    rintro _ rfl
    have ht : t.val / 64 < 32 := by omega
    simp only [hT]
    simp only [eq_word (a := s.val / 64) (b := t.val / 64) (by omega) (by omega), eq_word (a := Fin.val (n := 32) _) (b := t.val / 64) (lt_trans (Fin.isLt _) (by decide)) (by omega), uitofp_ofBool, pos_ind, pos_sum, ori_ofBool, andi_ofBool, ← Bool.decide_or, ← Bool.decide_and]
    refine ofBool_congr (and_congr (or_congr ?_ Iff.rfl) Iff.rfl)
    rw [← mem_first (imp (q V) (k V) (grp h) s) 16 (by decide) ⟨t.val / 64, ht⟩]
    simp only [Fin.ext_iff]
  exact key _ (own_word s)

end Cert.Proof.Ref

end
-- ==== Proof.Nsa.RefGen.lean ====
/- The reference's softmax terms at an index, over any scores. -/
module

public import proofs.«01_k».proof.Proof.Nsa.Words
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Cert.Proof.Soft Cert.Proof.Spec Cert.Proof.Words

variable (M : IVec S1x16x2048x2048 1) (A : FVec Ideal S1x16x2048x2048 .f32) (B : FVec Ideal S1x16x2048x1 .f32)

theorem const_bot : (id (constant (F := Ideal) S_ .f32 0xFF800000#32) : S_.Idx → EReal) ix0 = ⊥ := ofBits_bot
theorem const_nil : (id (constant (F := Ideal) S_ .f32 0x00000000#32) : S_.Idx → EReal) ix0 = 0 := ofBits_nil

theorem masked_gen (h : Fin 16) (s t : Fin 2048) :
    select M A (broadcastInDim S1x16x2048x2048 ![] bcast_S_S1x16x2048x2048 (id (constant S_ .f32 0xFF800000#32))) (ix4 0 h s t)
      = Scalar.select (M (ix4 0 h s t)) (A (ix4 0 h s t)) (⊥ : EReal) := by
  pointwise
  rw [const_bot]

theorem max_gen (h : Fin 16) (s : Fin 2048) :
    broadcastInDim S1x16x2048x1 ![0, 1, 2] bcast_S1x16x2048_S1x16x2048x1_0_1_2 (Host.reduce FloatOps.maximumf A (constant S_ .f32 0xFF800000#32) reducesTo_S1x16x2048x2048_S1x16x2048_d3 h_S_) (ix4 0 h s 0)
      = (Finset.univ.sup fun t : Fin 2048 => (A (ix4 0 h s t) : EReal)) := by
  pointwise
  rw [ofBits_bot]; rfl

theorem sum_gen (h : Fin 16) (s : Fin 2048) :
    broadcastInDim S1x16x2048x1 ![0, 1, 2] bcast_S1x16x2048_S1x16x2048x1_0_1_2 (Host.reduceAdd A (constant S_ .f32 0x00000000#32) reducesTo_S1x16x2048x2048_S1x16x2048_d3 h_S_) (ix4 0 h s 0)
      = ∑ t : Fin 2048, (A (ix4 0 h s t) : EReal) := by
  pointwise

theorem exp_gen (h : Fin 16) (s t : Fin 2048) :
    Host.exp (subf A (broadcastInDim S1x16x2048x2048 ![0, 1, 2, 3] bcast_S1x16x2048x1_S1x16x2048x2048_0_1_2_3 (select (cmpf .ogt B (broadcastInDim S1x16x2048x1 ![] bcast_S_S1x16x2048x1 (constant S_ .f32 0xFF800000#32))) B (broadcastInDim S1x16x2048x1 ![] bcast_S_S1x16x2048x1 (id (constant S_ .f32 0x00000000#32)))))) (ix4 0 h s t)
      = Ideal.exp (A (ix4 0 h s t) - away (B (ix4 0 h s 0))) := by
  unfold away
  pointwise
  rw [const_nil, ofBits_bot]

theorem spread_gen (m : IVec S1x1x2048x2048 1) (h : Fin 16) (s t : Fin 2048) :
    broadcastInDim S1x16x2048x2048 ![0, 1, 2, 3] bcast_S1x1x2048x2048_S1x16x2048x2048_0_1_2_3 m (ix4 0 h s t) = m (ix4 0 0 s t) := by
  pointwise

theorem spreadf_gen (m : FVec Ideal S1x1x2048x2048 .f32) (h : Fin 16) (s t : Fin 2048) :
    broadcastInDim S1x16x2048x2048 ![0, 1, 2, 3] bcast_S1x1x2048x2048_S1x16x2048x2048_0_1_2_3 m (ix4 0 h s t) = m (ix4 0 0 s t) := by
  pointwise

/-- The weights of the selection branch. -/
theorem weight_gen (h : Fin 16) (s t : Fin 2048) :
    mulf (Host.exp (subf A (broadcastInDim S1x16x2048x2048 ![0, 1, 2, 3] bcast_S1x16x2048x1_S1x16x2048x2048_0_1_2_3 (select (cmpf .ogt B (broadcastInDim S1x16x2048x1 ![] bcast_S_S1x16x2048x1 (constant S_ .f32 0xFF800000#32))) B (broadcastInDim S1x16x2048x1 ![] bcast_S_S1x16x2048x1 (id (constant S_ .f32 0x00000000#32))))))) (uitofp .f32 M) (ix4 0 h s t)
      = Ideal.exp (A (ix4 0 h s t) - away (B (ix4 0 h s 0))) * (FloatOps.uitofp (F := Ideal) .f32 (M (ix4 0 h s t)) : EReal) :=
  congrArg (fun x : EReal => x * (FloatOps.uitofp (F := Ideal) .f32 (M (ix4 0 h s t)) : EReal)) (exp_gen A B h s t)

/-- The weights of the window branch. -/
theorem weight_win_gen (m : IVec S1x1x2048x2048 1) (h : Fin 16) (s t : Fin 2048) :
    mulf (Host.exp (subf A (broadcastInDim S1x16x2048x2048 ![0, 1, 2, 3] bcast_S1x16x2048x1_S1x16x2048x2048_0_1_2_3 (select (cmpf .ogt B (broadcastInDim S1x16x2048x1 ![] bcast_S_S1x16x2048x1 (constant S_ .f32 0xFF800000#32))) B (broadcastInDim S1x16x2048x1 ![] bcast_S_S1x16x2048x1 (id (constant S_ .f32 0x00000000#32))))))) (broadcastInDim S1x16x2048x2048 ![0, 1, 2, 3] bcast_S1x1x2048x2048_S1x16x2048x2048_0_1_2_3 (uitofp .f32 m)) (ix4 0 h s t)
      = Ideal.exp (A (ix4 0 h s t) - away (B (ix4 0 h s 0))) * (FloatOps.uitofp (F := Ideal) .f32 (m (ix4 0 0 s t)) : EReal) :=
  congrArg₂ (fun x y : EReal => x * y) (exp_gen A B h s t) (spreadf_gen (uitofp .f32 m) h s t)

/-- The last contraction and what it contracts. -/
theorem out_gen (a157 : FVec Ideal S1x16x2048x3 .f32) (a49 : FVec Ideal S1x16x2048x32 .f32) (a8 : FVec Ideal S1x4x2048x128 .f32) (a51 a107 a139 : FVec Ideal S1x16x2048x1 .f32)
    (a105 a137 : FVec Ideal S1x16x2048x2048 .f32) (a91 : FVec Ideal S1x16x2048x128 .f32) (W : FVec Ideal S2048x2048 .f32) (s c : Fin 2048) :
    Host.dotGeneral (F := Ideal) dot_S1x2048x2048_S2048x2048_S1x2048x2048_2_0_01_1_n_n none (shapeCast _ (transpose S1x2048x16x128 [0, 2, 1, 3] (addf (addf (mulf (broadcastInDim S1x16x2048x128 ![0, 1, 2, 3] bcast_S1x16x2048x1_S1x16x2048x128_0_1_2_3 (extractStridedSlice S1x16x2048x1 ![0, 0, 0, 0] (a157) slices_S1x16x2048x3_S1x16x2048x1_0_0_0_0)) (Host.divf (Host.dotGeneral dot_S1x16x2048x32_S1x16x32x128_S1x16x2048x128_3_2_2_3_01_01 none (a49) (shapeCast _ (broadcastInDim S1x4x4x32x128 ![0, 1, 3, 4] bcast_S1x4x32x128_S1x4x4x32x128_0_1_3_4 (Host.divf (Host.reduceAdd (shapeCast _ (a8) shapeCasts_S1x4x2048x128_S1x4x32x64x128) (constant S_ .f32 0x00000000#32) reducesTo_S1x4x32x64x128_S1x4x32x128_d3 h_S_) (broadcastInDim S1x4x32x128 ![] bcast_S_S1x4x32x128 (constant S_ .f32 0x42800000#32)))) shapeCasts_S1x4x4x32x128_S1x16x32x128)) (broadcastInDim S1x16x2048x128 ![0, 1, 2, 3] bcast_S1x16x2048x1_S1x16x2048x128_0_1_2_3 (maximumf (a51) (broadcastInDim S1x16x2048x1 ![] bcast_S_S1x16x2048x1 (constant S_ .f32 0x3089705F#32)))))) (mulf (broadcastInDim S1x16x2048x128 ![0, 1, 2, 3] bcast_S1x16x2048x1_S1x16x2048x128_0_1_2_3 (extractStridedSlice S1x16x2048x1 ![0, 0, 0, 1] (a157) slices_S1x16x2048x3_S1x16x2048x1_0_0_0_1)) (Host.divf (Host.dotGeneral dot_S1x16x2048x2048_S1x16x2048x128_S1x16x2048x128_3_2_2_3_01_01 none (a105) (a91)) (broadcastInDim S1x16x2048x128 ![0, 1, 2, 3] bcast_S1x16x2048x1_S1x16x2048x128_0_1_2_3 (maximumf (a107) (broadcastInDim S1x16x2048x1 ![] bcast_S_S1x16x2048x1 (constant S_ .f32 0x3089705F#32))))))) (mulf (broadcastInDim S1x16x2048x128 ![0, 1, 2, 3] bcast_S1x16x2048x1_S1x16x2048x128_0_1_2_3 (extractStridedSlice S1x16x2048x1 ![0, 0, 0, 2] (a157) slices_S1x16x2048x3_S1x16x2048x1_0_0_0_2)) (Host.divf (Host.dotGeneral dot_S1x16x2048x2048_S1x16x2048x128_S1x16x2048x128_3_2_2_3_01_01 none (a137) (a91)) (broadcastInDim S1x16x2048x128 ![0, 1, 2, 3] bcast_S1x16x2048x1_S1x16x2048x128_0_1_2_3 (maximumf (a139) (broadcastInDim S1x16x2048x1 ![] bcast_S_S1x16x2048x1 (constant S_ .f32 0x3089705F#32))))))) transposes_S1x16x2048x128_S1x2048x16x128_0_2_1_3) shapeCasts_S1x2048x16x128_S1x2048x2048) W (ix3 0 s c)
      = ∑ j : Fin 2048, ((a157 (ix4 0 ⟨j.val / 128, by omega⟩ s 0) : EReal)
            * Ideal.div (∑ n : Fin 32, a49 (ix4 0 ⟨j.val / 128, by omega⟩ s n)
                * Ideal.div (∑ r : Fin 64, a8 (ix4 0 ⟨j.val / 128 / 4, by omega⟩ ⟨n.val * 64 + r.val, by omega⟩ ⟨j.val % 128, by omega⟩)) (Ideal.ofBits .f32 0x42800000#32))
              (max (a51 (ix4 0 ⟨j.val / 128, by omega⟩ s 0)) Spec.floor)
          + a157 (ix4 0 ⟨j.val / 128, by omega⟩ s 1)
            * Ideal.div (∑ t : Fin 2048, a105 (ix4 0 ⟨j.val / 128, by omega⟩ s t) * a91 (ix4 0 ⟨j.val / 128, by omega⟩ t ⟨j.val % 128, by omega⟩)) (max (a107 (ix4 0 ⟨j.val / 128, by omega⟩ s 0)) Spec.floor)
          + a157 (ix4 0 ⟨j.val / 128, by omega⟩ s 2)
            * Ideal.div (∑ t : Fin 2048, a137 (ix4 0 ⟨j.val / 128, by omega⟩ s t) * a91 (ix4 0 ⟨j.val / 128, by omega⟩ t ⟨j.val % 128, by omega⟩)) (max (a139 (ix4 0 ⟨j.val / 128, by omega⟩ s 0)) Spec.floor))
        * W (ix2 j c) := by
  unfold Spec.floor
  pointwise

end Cert.Proof.Ref

end
-- ==== Proof.Nsa.RefOut.lean ====
/- The reference's result is the layer. -/
module

public import proofs.«01_k».proof.Proof.Nsa.RefSel
public import proofs.«01_k».proof.Proof.Nsa.RefGen

@[expose] public section

set_option maxRecDepth 16384

noncomputable section

namespace Cert.Proof.Ref

open Cert.ReferenceIdeal Cert.ReferenceIdeal.Gen Cert.ReferenceIdeal.Value
open Idealize.ShloMosaic Cert.Proof.Soft Cert.Proof.Spec Cert.Proof.Words

variable (V : Valuation τ sig (Elt Ideal))

/-! ## The selection branch -/

theorem v95_at (h : Fin 16) (s t : Fin 2048) : res_main_v95 V (ix4 0 h s t) = seen (selSeen (q V) (k V) (grp h) s t) (fs (q V) (k V) h s t) := by
  unfold res_main_v95
  rw [masked_gen, v87_at, v94_at, select_dec]; rfl

theorem v97_at (h : Fin 16) (s : Fin 2048) : res_main_v97 V (ix4 0 h s 0) = bmax (selSeen (q V) (k V) (grp h) s) (fs (q V) (k V) h s) := by
  unfold res_main_v97
  rw [max_gen]
  simp only [v95_at]; rfl

theorem v105_at (h : Fin 16) (s t : Fin 2048) : res_main_v105 V (ix4 0 h s t)
    = wt (selSeen (q V) (k V) (grp h) s t) (fs (q V) (k V) h s t) (away (bmax (selSeen (q V) (k V) (grp h) s) (fs (q V) (k V) h s))) := by
  unfold res_main_v105
  rw [weight_gen, v95_at, v97_at, v87_at, uitofp_ofBool]
  unfold wt; rfl

theorem v107_at (h : Fin 16) (s : Fin 2048) : res_main_v107 V (ix4 0 h s 0)
    = ∑ t, wt (selSeen (q V) (k V) (grp h) s t) (fs (q V) (k V) h s t) (away (bmax (selSeen (q V) (k V) (grp h) s) (fs (q V) (k V) h s))) := by
  unfold res_main_v107
  rw [sum_gen]
  simp only [v105_at]

/-! ## The window branch -/

theorem v126_at (h : Fin 16) (s t : Fin 2048) : res_main_v126 V (ix4 0 h s t) = seen (winSeen s t) (fs (q V) (k V) h s t) := by
  unfold res_main_v126
  rw [masked_gen, spread_gen, v125_at, v94_at, select_dec]; rfl

theorem v128_at (h : Fin 16) (s : Fin 2048) : res_main_v128 V (ix4 0 h s 0) = bmax (winSeen s) (fs (q V) (k V) h s) := by
  unfold res_main_v128
  rw [max_gen]
  simp only [v126_at]; rfl

theorem v137_at (h : Fin 16) (s t : Fin 2048) : res_main_v137 V (ix4 0 h s t) = wt (winSeen s t) (fs (q V) (k V) h s t) (away (bmax (winSeen s) (fs (q V) (k V) h s))) := by
  unfold res_main_v137
  rw [weight_win_gen, v126_at, v128_at, v125_at, uitofp_ofBool]
  unfold wt; rfl

theorem v139_at (h : Fin 16) (s : Fin 2048) : res_main_v139 V (ix4 0 h s 0) = ∑ t, wt (winSeen s t) (fs (q V) (k V) h s t) (away (bmax (winSeen s) (fs (q V) (k V) h s))) := by
  unfold res_main_v139
  rw [sum_gen]
  simp only [v137_at]

/-- The result of the reference at an index. -/
theorem v171_at (s c : Fin 2048) : val4 V (Proc.devRef .tc main_v171) (ix3 0 s c) = out (q V) (k V) (v V) (gl V) (Wo V) s c := by
  rw [val4_main_v171]
  rw [out_gen]
  simp only [v157_at, v49_at, v8_at, v51_at, v107_at, v139_at, v105_at, v137_at, v91_at]
  rfl

end Cert.Proof.Ref

end
-- ==== Proof.Nsa.Agree.lean ====
/- The value claim: kernel and reference end with equal results. -/
module

public import proofs.«01_k».proof.Proof.Nsa.Frames
public import proofs.«01_k».proof.Proof.Nsa.Whole
public import proofs.«01_k».proof.Proof.Nsa.RefOut

@[expose] public section

set_option maxRecDepth 16384

noncomputable section

namespace Cert.Proof.Nsa

open Idealize.ShloMosaic Idealize.ShloMosaic.TcCoe Idealize.SL.Sem

section
variable (V : Valuation Cert.KernelIdeal.τ Cert.KernelIdeal.sig (Elt Ideal)) (V' : Valuation Cert.ReferenceIdeal.τ Cert.ReferenceIdeal.sig (Elt Ideal))
  (hX : Ref.X V' = aX V) (hq : Ref.Wq V' = aQ V) (hk : Ref.Wk V' = aK V) (hv : Ref.Wv V' = aV V) (hg : Ref.Wg V' = aG V) (ho : Ref.Wo V' = aO V)

include hX hq hk hv hg ho in
/-- From equal arguments, the two programs' layers are equal. -/
theorem out_agree (s c : Fin 2048) :
    Spec.out (Ref.q V') (Ref.k V') (Ref.v V') (Ref.gl V') (Ref.Wo V') s c = Spec.out (pq V) (pk V) (pv V) (pg V) (aO V) s c := by
  have e1 : Ref.q V' = pq V := by funext h s d; unfold Ref.q pq; rw [hX, hq]
  have e2 : Ref.k V' = pk V := by funext h s d; unfold Ref.k pk; rw [hX, hk]
  have e3 : Ref.v V' = pv V := by funext h s d; unfold Ref.v pv; rw [hX, hv]
  have e4 : Ref.gl V' = pg V := by funext h s d; unfold Ref.gl pg; rw [hX, hg]
  rw [e1, e2, e3, e4, ho]
end

/-- The reference's result from `m'` is the kernel's from `m`, where the arguments agree. -/
theorem result_agree (m : (ℓ : Loc Cert.KernelIdeal.nD Cert.KernelIdeal.τ Cert.KernelIdeal.sig) → Buf (Elt Ideal) ℓ) (c : Dev Cert.KernelIdeal.nD)
    (V' : Valuation Cert.ReferenceIdeal.τ Cert.ReferenceIdeal.sig (Elt Ideal))
    (hX : Ref.X V' = aX (Cert.KernelIdeal.Gen.V0 m c)) (hq : Ref.Wq V' = aQ (Cert.KernelIdeal.Gen.V0 m c)) (hk : Ref.Wk V' = aK (Cert.KernelIdeal.Gen.V0 m c))
    (hv : Ref.Wv V' = aV (Cert.KernelIdeal.Gen.V0 m c)) (hg : Ref.Wg V' = aG (Cert.KernelIdeal.Gen.V0 m c)) (ho : Ref.Wo V' = aO (Cert.KernelIdeal.Gen.V0 m c)) :
    (Cert.ReferenceIdeal.Value.val4 V' (Proc.devRef .tc Cert.ReferenceIdeal.main_v171) : FVec Ideal Cert.KernelIdeal.S1x2048x2048 .f32)
      = W9 m c (Proc.devRef .tc Cert.KernelIdeal.main_v19) := by
  funext x
  have hx : x = ix3 (0 : Fin 1) (x 1 : Fin 2048) (x 2 : Fin 2048) := by
    have h0 : (x 0).val < 1 := (x 0).isLt
    funext e; fin_cases e
    · apply Fin.ext; show (x 0).val = 0; omega
    · rfl
    · rfl
  rw [hx]
  exact (Ref.v171_at V' (x 1) (x 2)).trans ((out_agree _ V' hX hq hk hv hg ho (x 1) (x 2)).trans (v19_at m c (x 1) (x 2)).symm)

/-- Over the extended reals the kernel and the reference compute the same function. -/
theorem algebraic : Cert.algebraic_KernelIdeal_ReferenceIdeal := by
  intro m g m' g' _ hagree
  refine ⟨fun c => W9 m c Cert.KernelIdeal.main_v19, (θ_run Cert.KernelIdeal.defs _ _).mono (fun r h => h.1) (run_whole (F := Ideal) m g), ?_⟩
  have hv : ∀ c, (Cert.ReferenceIdeal.Value.val4 (StableHlo.launchContents m' c) (Proc.devRef .tc Cert.ReferenceIdeal.main_v171) : FVec Ideal Cert.KernelIdeal.S1x2048x2048 .f32)
      = W9 m c (Proc.devRef .tc Cert.KernelIdeal.main_v19) := by
    intro c
    obtain ⟨h0, h1, h2, h3, h4, h5⟩ := hagree c
    exact result_agree m c _ (funext fun s => funext fun k => congrFun h0 _) (funext fun s => funext fun k => congrFun h1 _)
      (funext fun s => funext fun k => congrFun h2 _) (funext fun s => funext fun k => congrFun h3 _) (funext fun s => funext fun k => congrFun h4 _)
      (funext fun s => funext fun k => congrFun h5 _)
  exact (θ_run Cert.ReferenceIdeal.defs _ _).mono
    (fun _ h c => ⟨((h c).1.trans (Cert.ReferenceIdeal.Value.val4_main_v171 (StableHlo.launchContents m' c)).symm).trans (hv c), (h c).2⟩)
    (Cert.ReferenceIdeal.Value.run (F := Ideal) m' g')

end Cert.Proof.Nsa

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Nsa.Frames
public import proofs.«01_k».proof.Proof.Nsa.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Nsa.frame_kernel, Nsa.frame_ideal, Nsa.frame_reference, Nsa.preserves, Nsa.algebraic⟩

end Cert.Proof

end
